-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_ids_in_range_scales_finite [hPre_ids_in_range_scales_finite : Cert.Pre_ids_in_range_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_scales_finite [hPre_ids_in_range_scales_finite : Cert.Pre_ids_in_range_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ids_in_range_scales_finite [hKernelIdeal : Cert.KernelIdeal.Facts] [hPre_ids_in_range_scales_finite : Cert.Pre_ids_in_range_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ids_in_range_scales_finite [hReferenceIdeal : Cert.ReferenceIdeal.Facts] [hPre_ids_in_range_scales_finite : Cert.Pre_ids_in_range_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S16x128 Cert.KernelIdeal.S8x128
  ∧ IdealRules.bf16_pair.Statement Cert.KernelIdeal.S8x2x128 Cert.KernelIdeal.S8x1x128

def algebraic_KernelIdeal_ReferenceIdeal_pre_ids_in_range_scales_finite [hKernelIdeal : Cert.KernelIdeal.Facts] [hReferenceIdeal : Cert.ReferenceIdeal.Facts] [hPre_ids_in_range_scales_finite : Cert.Pre_ids_in_range_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_scales_finite : Cert.Pre_ids_in_range_scales_finite.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_scales_finite (hKernelIdeal := hKernelIdeal) (hPre_ids_in_range_scales_finite := hPre_ids_in_range_scales_finite)
    ∧ quiescent_ReferenceIdeal (hReferenceIdeal := hReferenceIdeal)
    ∧ quiescent_ReferenceIdeal_pre_ids_in_range_scales_finite (hReferenceIdeal := hReferenceIdeal) (hPre_ids_in_range_scales_finite := hPre_ids_in_range_scales_finite)
    ∧ preserves_Kernel_KernelIdeal
    ∧ algebraic_KernelIdeal_ReferenceIdeal_pre_ids_in_range_scales_finite (hKernelIdeal := hKernelIdeal) (hReferenceIdeal := hReferenceIdeal) (hPre_ids_in_range_scales_finite := hPre_ids_in_range_scales_finite)
-- ==== Pre_ids_in_range.lean ====
abbrev S4x8192 : Shape := ⟨2, ![4, 8192]⟩
abbrev S16000x2048 : Shape := ⟨2, ![16000, 2048]⟩
abbrev S16000x128 : Shape := ⟨2, ![16000, 128]⟩
abbrev S_ : Shape := ⟨0, ![]⟩

class Facts : Prop where
  bcast_S_S4x8192 : S_.BroadcastsInDim S4x8192 (![] : Fin 0 → Fin S4x8192.rank)

variable [Facts]

def fn {F : FTy → Type} [FloatOps F] (main_arg0 : IVec S4x8192 32) (main_arg1 : IVec S16000x2048 8) (main_arg2 : IVec S16000x128 16) : IVec S4x8192 1 :=
  let main_c : IVec S_ 32 := constantI S_ 32 0#32
  let main_v0 : IVec S4x8192 32 := broadcastInDim S4x8192 ![] bcast_S_S4x8192 main_c
  let main_v1 : IVec S4x8192 1 := cmpi .sge main_arg0 main_v0
  let main_c_0 : IVec S_ 32 := constantI S_ 32 16000#32
  let main_v2 : IVec S4x8192 32 := broadcastInDim S4x8192 ![] bcast_S_S4x8192 main_c_0
  let main_v3 : IVec S4x8192 1 := cmpi .slt main_arg0 main_v2
  let main_v4 : IVec S4x8192 1 := andi main_v1 main_v3
  main_v4
-- ==== Pre_ids_in_range_scales_finite.lean ====
abbrev S4x8192 : Shape := ⟨2, ![4, 8192]⟩
abbrev S16000x2048 : Shape := ⟨2, ![16000, 2048]⟩
abbrev S16000x128 : Shape := ⟨2, ![16000, 128]⟩
abbrev S_ : Shape := ⟨0, ![]⟩

class Facts : Prop where
  natLt_16_32 : 16 < 32
  bcast_S_S16000x128 : S_.BroadcastsInDim S16000x128 (![] : Fin 0 → Fin S16000x128.rank)
  bcast_S_S4x8192 : S_.BroadcastsInDim S4x8192 (![] : Fin 0 → Fin S4x8192.rank)
  reducesTo_S4x8192_S_d0_1 : S4x8192.ReducesTo [0, 1] S_
  h_S_ : 0 < S_.numel
  reducesTo_S16000x128_S_d0_1 : S16000x128.ReducesTo [0, 1] S_

variable [Facts]

def fn {F : FTy → Type} [FloatOps F] (main_arg0 : IVec S4x8192 32) (main_arg1 : IVec S16000x2048 8) (main_arg2 : IVec S16000x128 16) : IVec S_ 1 :=
  let main_v0 : IVec S16000x128 32 := (extui 32 · natLt_16_32) main_arg2
  let main_c : IVec S_ 32 := constantI S_ 32 31744#32
  let main_v1 : IVec S16000x128 32 := broadcastInDim S16000x128 ![] bcast_S_S16000x128 main_c
  let main_v2 : IVec S16000x128 32 := andi main_v0 main_v1
  let main_c_0 : IVec S_ 32 := constantI S_ 32 31744#32
  let main_v3 : IVec S16000x128 32 := broadcastInDim S16000x128 ![] bcast_S_S16000x128 main_c_0
  let main_v4 : IVec S16000x128 1 := cmpi .ne main_v2 main_v3
  let main_c_1 : IVec S_ 32 := constantI S_ 32 0#32
  let main_v5 : IVec S4x8192 32 := broadcastInDim S4x8192 ![] bcast_S_S4x8192 main_c_1
  let main_v6 : IVec S4x8192 1 := cmpi .sge main_arg0 main_v5
  let main_c_2 : IVec S_ 32 := constantI S_ 32 16000#32
  let main_v7 : IVec S4x8192 32 := broadcastInDim S4x8192 ![] bcast_S_S4x8192 main_c_2
  let main_v8 : IVec S4x8192 1 := cmpi .slt main_arg0 main_v7
  let main_v9 : IVec S4x8192 1 := andi main_v6 main_v8
  let main_c_3 : IVec S_ 1 := constantI S_ 1 1#1
  let main_v10 : IVec S_ 1 := (fun x v => Host.reduce IntOp.andi x v reducesTo_S4x8192_S_d0_1 h_S_) main_v9 main_c_3
  let main_c_4 : IVec S_ 1 := constantI S_ 1 1#1
  let main_v11 : IVec S_ 1 := (fun x v => Host.reduce IntOp.andi x v reducesTo_S16000x128_S_d0_1 h_S_) main_v4 main_c_4
  let main_v12 : IVec S_ 1 := andi main_v10 main_v11
  main_v12
-- ==== Kernel.lean ====
abbrev S4x8192 : Shape := ⟨2, ![4, 8192]⟩
abbrev S16000x2048 : Shape := ⟨2, ![16000, 2048]⟩
abbrev S16000x128 : Shape := ⟨2, ![16000, 128]⟩
abbrev S1048576x128 : Shape := ⟨2, ![1048576, 128]⟩
abbrev S320x2048 : Shape := ⟨2, ![320, 2048]⟩
abbrev S320x128 : Shape := ⟨2, ![320, 128]⟩
abbrev S8192x128 : Shape := ⟨2, ![8192, 128]⟩
abbrev S64008x128 : Shape := ⟨2, ![64008, 128]⟩
abbrev S8x128 : Shape := ⟨2, ![8, 128]⟩
abbrev S32x128 : Shape := ⟨2, ![32, 128]⟩
abbrev S8x128x1 : Shape := ⟨3, ![8, 128, 1]⟩
abbrev S160x128 : Shape := ⟨2, ![160, 128]⟩
abbrev S16x128 : Shape := ⟨2, ![16, 128]⟩
abbrev S1x1 : Shape := ⟨2, ![1, 1]⟩
abbrev S64x128 : Shape := ⟨2, ![64, 128]⟩
abbrev S1x128 : Shape := ⟨2, ![1, 128]⟩
abbrev S4096x128 : Shape := ⟨2, ![4096, 128]⟩
abbrev S4096x2x128 : Shape := ⟨3, ![4096, 2, 128]⟩
abbrev S8x2x128 : Shape := ⟨3, ![8, 2, 128]⟩
abbrev S8x1x128 : Shape := ⟨3, ![8, 1, 128]⟩
abbrev S4096x32x8x128 : Shape := ⟨4, ![4096, 32, 8, 128]⟩
abbrev S4096x8x32x128 : Shape := ⟨4, ![4096, 8, 32, 128]⟩
abbrev S4x8192x4096 : Shape := ⟨3, ![4, 8192, 4096]⟩

abbrev nBuf : Space → Nat
  | .hbm => 6
  | .vmem => 8
  | .smem => 1
  | _ => 0

abbrev bufTy : (tb : Table) → Fin (tcTables nBuf tb) → BufTy
  | .hbm, ⟨0, _⟩ => ⟨S16000x2048, .i8⟩
  | .hbm, ⟨1, _⟩ => ⟨S16000x128, .i16⟩
  | .hbm, ⟨2, _⟩ => ⟨S1048576x128, .bf16⟩
  | .hbm, ⟨3, _⟩ => ⟨S4096x32x8x128, .bf16⟩
  | .hbm, ⟨4, _⟩ => ⟨S4096x8x32x128, .bf16⟩
  | .hbm, ⟨5, _⟩ => ⟨S4x8192x4096, .bf16⟩
  | .local _ .vmem, ⟨0, _⟩ => ⟨S320x2048, .i8⟩
  | .local _ .vmem, ⟨1, _⟩ => ⟨S320x2048, .i8⟩
  | .local _ .vmem, ⟨2, _⟩ => ⟨S320x128, .i16⟩
  | .local _ .vmem, ⟨3, _⟩ => ⟨S320x128, .i16⟩
  | .local _ .vmem, ⟨4, _⟩ => ⟨S8192x128, .bf16⟩
  | .local _ .vmem, ⟨5, _⟩ => ⟨S8192x128, .bf16⟩
  | .local _ .vmem, ⟨6, _⟩ => ⟨S64008x128, .i32⟩
  | .local _ .vmem, ⟨7, _⟩ => ⟨S16000x128, .i32⟩
  | .local _ .smem, ⟨0, _⟩ => ⟨S4x8192, .i32⟩
  | _, _ => ⟨S16000x2048, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![178], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c50_i32 : BitVec 32 := 50#32
  let v0 : BitVec 1 := Scalar.cmpi .slt arg0 c50_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_4 : BitVec 32 := 0#32
  let c10_i32 : BitVec 32 := 10#32
  let v17 : BitVec 32 := Scalar.addi c0_i32_4 c10_i32
  let c1_i32_5 : BitVec 32 := 1#32
  ⟨c0_i32_4, v17, c1_i32_5⟩
def k0_mult1 (k0_t1 : Fin k0_t1_loop.trips) : BitVec 32 :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  v19
def k0_off1 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_10 : BitVec 32 := 4#32
  let v24 : BitVec 32 := Scalar.muli v20 c4_i32_10
  let v25 : Index := Scalar.indexCast v24
  let c0 : Index := 0#32
  ![v25.toNat, 0]
def k0_off2 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_20 : BitVec 32 := 4#32
  let v63 : BitVec 32 := Scalar.muli v20 c4_i32_20
  let v64 : Index := Scalar.indexCast v63
  let c128 : Index := 128#32
  ![v64.toNat, 128]
def k0_off3 (i : grid0.Coords) (k0_t1 : Fin k0_t1_loop.trips) (c0_i32_35 : BitVec 32) : Fin 2 → Nat :=
  let arg0 : BitVec 32 := BitVec.ofNat 32 (i 0).val
  let c160_i32 : BitVec 32 := 160#32
  let v21 : BitVec 32 := Scalar.muli arg0 c160_i32
  let c0_i32_4 : BitVec 32 := 0#32
  let c1_i32_5 : BitVec 32 := 1#32
  let arg7 : BitVec 32 := Scf.iv c0_i32_4 c1_i32_5 k0_t1
  let c16_i32 : BitVec 32 := 16#32
  let v22 : BitVec 32 := Scalar.muli arg7 c16_i32
  let v23 : BitVec 32 := Scalar.addi v21 v22
  let v108 : BitVec 32 := Scalar.addi c0_i32_35 v23
  let v109 : Index := Scalar.indexCast v108
  let c0_36 : Index := 0#32
  ![v109.toNat, 0]
def k0_off4 (i : grid0.Coords) (k0_t1 : Fin k0_t1_loop.trips) (c0_i32_37 : BitVec 32) : Fin 2 → Nat :=
  let arg0 : BitVec 32 := BitVec.ofNat 32 (i 0).val
  let c160_i32 : BitVec 32 := 160#32
  let v21 : BitVec 32 := Scalar.muli arg0 c160_i32
  let c0_i32_4 : BitVec 32 := 0#32
  let c1_i32_5 : BitVec 32 := 1#32
  let arg7 : BitVec 32 := Scf.iv c0_i32_4 c1_i32_5 k0_t1
  let c16_i32 : BitVec 32 := 16#32
  let v22 : BitVec 32 := Scalar.muli arg7 c16_i32
  let v23 : BitVec 32 := Scalar.addi v21 v22
  let v113 : BitVec 32 := Scalar.addi c0_i32_37 v23
  let c1_i32_38 : BitVec 32 := 1#32
  let v114 : BitVec 32 := Scalar.addi v113 c1_i32_38
  let v115 : Index := Scalar.indexCast v114
  let c0_39 : Index := 0#32
  ![v115.toNat, 0]
def k0_off5 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_40 : BitVec 32 := 4#32
  let v119 : BitVec 32 := Scalar.muli v20 c4_i32_40
  let v120 : Index := Scalar.indexCast v119
  let c256 : Index := 256#32
  ![v120.toNat, 256]
def k0_off6 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_53 : BitVec 32 := 4#32
  let v158 : BitVec 32 := Scalar.muli v20 c4_i32_53
  let v159 : Index := Scalar.indexCast v158
  let c384 : Index := 384#32
  ![v159.toNat, 384]
def k0_off7 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_72 : BitVec 32 := 4#32
  let v214 : BitVec 32 := Scalar.muli v20 c4_i32_72
  let v215 : Index := Scalar.indexCast v214
  let c512 : Index := 512#32
  ![v215.toNat, 512]
def k0_off8 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_85 : BitVec 32 := 4#32
  let v253 : BitVec 32 := Scalar.muli v20 c4_i32_85
  let v254 : Index := Scalar.indexCast v253
  let c640 : Index := 640#32
  ![v254.toNat, 640]
def k0_off9 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_104 : BitVec 32 := 4#32
  let v309 : BitVec 32 := Scalar.muli v20 c4_i32_104
  let v310 : Index := Scalar.indexCast v309
  let c768 : Index := 768#32
  ![v310.toNat, 768]
def k0_off10 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_117 : BitVec 32 := 4#32
  let v348 : BitVec 32 := Scalar.muli v20 c4_i32_117
  let v349 : Index := Scalar.indexCast v348
  let c896 : Index := 896#32
  ![v349.toNat, 896]
def k0_off11 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_136 : BitVec 32 := 4#32
  let v404 : BitVec 32 := Scalar.muli v20 c4_i32_136
  let v405 : Index := Scalar.indexCast v404
  let c1024 : Index := 1024#32
  ![v405.toNat, 1024]
def k0_off12 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_149 : BitVec 32 := 4#32
  let v443 : BitVec 32 := Scalar.muli v20 c4_i32_149
  let v444 : Index := Scalar.indexCast v443
  let c1152 : Index := 1152#32
  ![v444.toNat, 1152]
def k0_off13 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_168 : BitVec 32 := 4#32
  let v499 : BitVec 32 := Scalar.muli v20 c4_i32_168
  let v500 : Index := Scalar.indexCast v499
  let c1280 : Index := 1280#32
  ![v500.toNat, 1280]
def k0_off14 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_181 : BitVec 32 := 4#32
  let v538 : BitVec 32 := Scalar.muli v20 c4_i32_181
  let v539 : Index := Scalar.indexCast v538
  let c1408 : Index := 1408#32
  ![v539.toNat, 1408]
def k0_off15 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_200 : BitVec 32 := 4#32
  let v594 : BitVec 32 := Scalar.muli v20 c4_i32_200
  let v595 : Index := Scalar.indexCast v594
  let c1536 : Index := 1536#32
  ![v595.toNat, 1536]
def k0_off16 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_213 : BitVec 32 := 4#32
  let v633 : BitVec 32 := Scalar.muli v20 c4_i32_213
  let v634 : Index := Scalar.indexCast v633
  let c1664 : Index := 1664#32
  ![v634.toNat, 1664]
def k0_off17 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_232 : BitVec 32 := 4#32
  let v689 : BitVec 32 := Scalar.muli v20 c4_i32_232
  let v690 : Index := Scalar.indexCast v689
  let c1792 : Index := 1792#32
  ![v690.toNat, 1792]
def k0_off18 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c8_i32 : BitVec 32 := 8#32
  let v19 : BitVec 32 := Scalar.muli arg7 c8_i32
  let v20 : BitVec 32 := v19
  let c4_i32_245 : BitVec 32 := 4#32
  let v728 : BitVec 32 := Scalar.muli v20 c4_i32_245
  let v729 : Index := Scalar.indexCast v728
  let c1920 : Index := 1920#32
  ![v729.toNat, 1920]
@[reducible] def k0_t2_loop : Scf.Loop 32 :=
  let c0_i32_7 : BitVec 32 := 0#32
  let c20_i32 : BitVec 32 := 20#32
  let v18 : BitVec 32 := Scalar.addi c0_i32_7 c20_i32
  let c1_i32_8 : BitVec 32 := 1#32
  ⟨c0_i32_7, v18, c1_i32_8⟩
def k0_mult2 (k0_t2 : Fin k0_t2_loop.trips) : BitVec 32 :=
  let c0_i32_7 : BitVec 32 := 0#32
  let c1_i32_8 : BitVec 32 := 1#32
  let arg7 : BitVec 32 := Scf.iv c0_i32_7 c1_i32_8 k0_t2
  let c8_i32 : BitVec 32 := 8#32
  let v19 : BitVec 32 := Scalar.muli arg7 c8_i32
  v19
def k0_off19 (k0_t2 : Fin k0_t2_loop.trips) : Fin 2 → Nat :=
  let c0_i32_7 : BitVec 32 := 0#32
  let c1_i32_8 : BitVec 32 := 1#32
  let arg7 : BitVec 32 := Scf.iv c0_i32_7 c1_i32_8 k0_t2
  let c8_i32 : BitVec 32 := 8#32
  let v19 : BitVec 32 := Scalar.muli arg7 c8_i32
  let v20 : BitVec 32 := v19
  let v22 : Index := Scalar.indexCast v20
  let c0 : Index := 0#32
  ![Nat.mul 2 v22.toNat, 0]
def k0_off20 (i : grid0.Coords) (k0_t2 : Fin k0_t2_loop.trips) (c0_i32_24 : BitVec 32) : Fin 2 → Nat :=
  let arg0 : BitVec 32 := BitVec.ofNat 32 (i 0).val
  let c320_i32 : BitVec 32 := 320#32
  let v99 : BitVec 32 := Scalar.muli arg0 c320_i32
  let c0_i32_7 : BitVec 32 := 0#32
  let c1_i32_8 : BitVec 32 := 1#32
  let arg7 : BitVec 32 := Scf.iv c0_i32_7 c1_i32_8 k0_t2
  let c2_i32 : BitVec 32 := 2#32
  let v100 : BitVec 32 := Scalar.muli arg7 c2_i32
  let c8_i32_23 : BitVec 32 := 8#32
  let v101 : BitVec 32 := Scalar.muli v100 c8_i32_23
  let v102 : BitVec 32 := Scalar.addi v99 v101
  let v103 : BitVec 32 := Scalar.addi v102 c0_i32_24
  let v104 : Index := Scalar.indexCast v103
  let c0_25 : Index := 0#32
  ![v104.toNat, 0]
def k0_cond2 (i : grid0.Coords) : BitVec 1 :=
  let arg0 : BitVec 32 := BitVec.ofNat 32 (i 0).val
  let c50_i32_0 : BitVec 32 := 50#32
  let v3 : BitVec 1 := Scalar.cmpi .sge arg0 c50_i32_0
  let v4 : BitVec 32 := Scalar.extui v3
  let c0_i32_1 : BitVec 32 := 0#32
  let v5 : BitVec 1 := Scalar.cmpi .ne v4 c0_i32_1
  v5

@[reducible] def k0_t3_loop : Scf.Loop 32 :=
  let c0_i32_21 : BitVec 32 := 0#32
  let c128_i32 : BitVec 32 := 128#32
  let v64 : BitVec 32 := Scalar.addi c0_i32_21 c128_i32
  let c1_i32_22 : BitVec 32 := 1#32
  ⟨c0_i32_21, v64, c1_i32_22⟩
def k0_off21 (i : grid0.Coords) (k0_t3 : Fin k0_t3_loop.trips) : Fin 2 → Nat :=
  let arg0 : BitVec 32 := BitVec.ofNat 32 (i 0).val
  let c50_i32_2 : BitVec 32 := 50#32
  let v6 : BitVec 32 := Scalar.subi arg0 c50_i32_2
  let c0_i32_9 : BitVec 32 := 0#32
  let v37 : BitVec 1 := Scalar.cmpi .sgt v6 c0_i32_9
  let v38 : BitVec 32 := Scalar.extui v37
  let c0_i32_10 : BitVec 32 := 0#32
  let v39 : BitVec 1 := Scalar.cmpi .slt v6 c0_i32_10
  let v40 : BitVec 32 := Scalar.extui v39
  let v41 : BitVec 32 := Scalar.subi v38 v40
  let c32_i32_8 : BitVec 32 := 32#32
  let c0_i32_11 : BitVec 32 := 0#32
  let v42 : BitVec 1 := Scalar.cmpi .sgt c32_i32_8 c0_i32_11
  let v43 : BitVec 32 := Scalar.extui v42
  let c0_i32_12 : BitVec 32 := 0#32
  let v44 : BitVec 1 := Scalar.cmpi .slt c32_i32_8 c0_i32_12
  let v45 : BitVec 32 := Scalar.extui v44
  let v46 : BitVec 32 := Scalar.subi v43 v45
  let v47 : BitVec 1 := Scalar.cmpi .ne v41 v46
  let v48 : BitVec 32 := Scalar.remsi v6 c32_i32_8
  let c0_i32_13 : BitVec 32 := 0#32
  let v49 : BitVec 1 := Scalar.cmpi .ne v48 c0_i32_13
  let v50 : BitVec 1 := Scalar.andi v47 v49
  let v36 : BitVec 32 := Scalar.divsi v6 c32_i32_8
  let c1_i32_14 : BitVec 32 := 1#32
  let v51 : BitVec 32 := Scalar.subi v36 c1_i32_14
  let v52 : BitVec 32 := Scalar.select v50 v51 v36
  let v67 : Index := Scalar.indexCast v52
  let c32_i32_15 : BitVec 32 := 32#32
  let c0_i32_16 : BitVec 32 := 0#32
  let v53 : BitVec 1 := Scalar.cmpi .eq c32_i32_15 c0_i32_16
  let c1_i32_17 : BitVec 32 := 1#32
  let v54 : BitVec 32 := Scalar.select v53 c1_i32_17 c32_i32_15
  let v55 : BitVec 32 := Scalar.remsi v6 v54
  let c0_i32_19 : BitVec 32 := 0#32
  let v57 : BitVec 1 := Scalar.cmpi .slt v55 c0_i32_19
  let c0_i32_20 : BitVec 32 := 0#32
  let v58 : BitVec 1 := Scalar.cmpi .slt v54 c0_i32_20
  let v59 : BitVec 1 := Scalar.xori v57 v58
  let c0_i32_18 : BitVec 32 := 0#32
  let v56 : BitVec 1 := Scalar.cmpi .ne v55 c0_i32_18
  let v60 : BitVec 1 := Scalar.andi v59 v56
  let v61 : BitVec 32 := Scalar.addi v55 v54
  let v62 : BitVec 32 := Scalar.select v60 v61 v55
  let c256_i32 : BitVec 32 := 256#32
  let v63 : BitVec 32 := Scalar.muli v62 c256_i32
  let c2_i32 : BitVec 32 := 2#32
  let c0_i32_21 : BitVec 32 := 0#32
  let c1_i32_22 : BitVec 32 := 1#32
  let arg7 : BitVec 32 := Scf.iv c0_i32_21 c1_i32_22 k0_t3
  let v65 : BitVec 32 := Scalar.muli c2_i32 arg7
  let v66 : BitVec 32 := Scalar.addi v63 v65
  let v68 : Index := Scalar.indexCast v66
  ![v67.toNat, v68.toNat]
def k0_off22 (i : grid0.Coords) (k0_t3 : Fin k0_t3_loop.trips) : Fin 2 → Nat :=
  let arg0 : BitVec 32 := BitVec.ofNat 32 (i 0).val
  let c50_i32_2 : BitVec 32 := 50#32
  let v6 : BitVec 32 := Scalar.subi arg0 c50_i32_2
  let c0_i32_9 : BitVec 32 := 0#32
  let v37 : BitVec 1 := Scalar.cmpi .sgt v6 c0_i32_9
  let v38 : BitVec 32 := Scalar.extui v37
  let c0_i32_10 : BitVec 32 := 0#32
  let v39 : BitVec 1 := Scalar.cmpi .slt v6 c0_i32_10
  let v40 : BitVec 32 := Scalar.extui v39
  let v41 : BitVec 32 := Scalar.subi v38 v40
  let c32_i32_8 : BitVec 32 := 32#32
  let c0_i32_11 : BitVec 32 := 0#32
  let v42 : BitVec 1 := Scalar.cmpi .sgt c32_i32_8 c0_i32_11
  let v43 : BitVec 32 := Scalar.extui v42
  let c0_i32_12 : BitVec 32 := 0#32
  let v44 : BitVec 1 := Scalar.cmpi .slt c32_i32_8 c0_i32_12
  let v45 : BitVec 32 := Scalar.extui v44
  let v46 : BitVec 32 := Scalar.subi v43 v45
  let v47 : BitVec 1 := Scalar.cmpi .ne v41 v46
  let v48 : BitVec 32 := Scalar.remsi v6 c32_i32_8
  let c0_i32_13 : BitVec 32 := 0#32
  let v49 : BitVec 1 := Scalar.cmpi .ne v48 c0_i32_13
  let v50 : BitVec 1 := Scalar.andi v47 v49
  let v36 : BitVec 32 := Scalar.divsi v6 c32_i32_8
  let c1_i32_14 : BitVec 32 := 1#32
  let v51 : BitVec 32 := Scalar.subi v36 c1_i32_14
  let v52 : BitVec 32 := Scalar.select v50 v51 v36
  let v73 : Index := Scalar.indexCast v52
  let c32_i32_15 : BitVec 32 := 32#32
  let c0_i32_16 : BitVec 32 := 0#32
  let v53 : BitVec 1 := Scalar.cmpi .eq c32_i32_15 c0_i32_16
  let c1_i32_17 : BitVec 32 := 1#32
  let v54 : BitVec 32 := Scalar.select v53 c1_i32_17 c32_i32_15
  let v55 : BitVec 32 := Scalar.remsi v6 v54
  let c0_i32_19 : BitVec 32 := 0#32
  let v57 : BitVec 1 := Scalar.cmpi .slt v55 c0_i32_19
  let c0_i32_20 : BitVec 32 := 0#32
  let v58 : BitVec 1 := Scalar.cmpi .slt v54 c0_i32_20
  let v59 : BitVec 1 := Scalar.xori v57 v58
  let c0_i32_18 : BitVec 32 := 0#32
  let v56 : BitVec 1 := Scalar.cmpi .ne v55 c0_i32_18
  let v60 : BitVec 1 := Scalar.andi v59 v56
  let v61 : BitVec 32 := Scalar.addi v55 v54
  let v62 : BitVec 32 := Scalar.select v60 v61 v55
  let c256_i32 : BitVec 32 := 256#32
  let v63 : BitVec 32 := Scalar.muli v62 c256_i32
  let c2_i32_24 : BitVec 32 := 2#32
  let c0_i32_21 : BitVec 32 := 0#32
  let c1_i32_22 : BitVec 32 := 1#32
  let arg7 : BitVec 32 := Scf.iv c0_i32_21 c1_i32_22 k0_t3
  let v70 : BitVec 32 := Scalar.muli c2_i32_24 arg7
  let v71 : BitVec 32 := Scalar.addi v63 v70
  let c1_i32_25 : BitVec 32 := 1#32
  let v72 : BitVec 32 := Scalar.addi v71 c1_i32_25
  let v74 : Index := Scalar.indexCast v72
  ![v73.toNat, v74.toNat]
def k0_off23 (v69 : BitVec 32) : Fin 2 → Nat :=
  let c1_i32_26 : BitVec 32 := 1#32
  let v76 : BitVec 32 := Scalar.shrsi v69 c1_i32_26
  let v77 : Index := Scalar.indexCast v76
  let c0 : Index := 0#32
  ![v77.toNat, 0]

def k0_off24 (v75 : BitVec 32) : Fin 2 → Nat :=
  let c1_i32_29 : BitVec 32 := 1#32
  let v83 : BitVec 32 := Scalar.shrsi v75 c1_i32_29
  let v84 : Index := Scalar.indexCast v83
  let c0_30 : Index := 0#32
  ![v84.toNat, 0]

def k0_off25 (v69 : BitVec 32) : Fin 2 → Nat :=
  let v108 : Index := Scalar.indexCast v69
  let c0_37 : Index := 0#32
  ![v108.toNat, 0]

def k0_chk1 (i : grid0.Coords) (v69 : BitVec 32) : Prop :=
  (∀ (k0_h2 : k0_cond2 i = 1#1), ∀ a, S8x128.size a = 0 ∨ (k0_off23 v69) a + (![8001, 1] : Fin 2 → Nat) a * (S8x128.size a - 1) < S64008x128.size a) ∧
  (∀ (k0_h2 : k0_cond2 i = 1#1), ∀ a, (k0_off25 v69) a + S1x128.size a ≤ S16000x128.size a)
theorem k0_off23_inb : ∀ (i : grid0.Coords) (v69 : BitVec 32) (k0_hw1 : k0_chk1 i v69), ∀ (k0_h2 : k0_cond2 i = 1#1), ∀ a, S8x128.size a = 0 ∨ (k0_off23 v69) a + (![8001, 1] : Fin 2 → Nat) a * (S8x128.size a - 1) < S64008x128.size a := fun i v69 k0_hw1 k0_h2 => k0_hw1.1 k0_h2
theorem k0_off25_inb : ∀ (i : grid0.Coords) (v69 : BitVec 32) (k0_hw1 : k0_chk1 i v69), ∀ (k0_h2 : k0_cond2 i = 1#1), ∀ a, (k0_off25 v69) a + S1x128.size a ≤ S16000x128.size a := fun i v69 k0_hw1 k0_h2 => k0_hw1.2 k0_h2

def k0_off26 (v75 : BitVec 32) : Fin 2 → Nat :=
  let v112 : Index := Scalar.indexCast v75
  let c0_38 : Index := 0#32
  ![v112.toNat, 0]

def k0_chk2 (i : grid0.Coords) (v75 : BitVec 32) : Prop :=
  (∀ (k0_h2 : k0_cond2 i = 1#1), ∀ a, S8x128.size a = 0 ∨ (k0_off24 v75) a + (![8001, 1] : Fin 2 → Nat) a * (S8x128.size a - 1) < S64008x128.size a) ∧
  (∀ (k0_h2 : k0_cond2 i = 1#1), ∀ a, (k0_off26 v75) a + S1x128.size a ≤ S16000x128.size a)
theorem k0_off24_inb : ∀ (i : grid0.Coords) (v75 : BitVec 32) (k0_hw2 : k0_chk2 i v75), ∀ (k0_h2 : k0_cond2 i = 1#1), ∀ a, S8x128.size a = 0 ∨ (k0_off24 v75) a + (![8001, 1] : Fin 2 → Nat) a * (S8x128.size a - 1) < S64008x128.size a := fun i v75 k0_hw2 k0_h2 => k0_hw2.1 k0_h2
theorem k0_off26_inb : ∀ (i : grid0.Coords) (v75 : BitVec 32) (k0_hw2 : k0_chk2 i v75), ∀ (k0_h2 : k0_cond2 i = 1#1), ∀ a, (k0_off26 v75) a + S1x128.size a ≤ S16000x128.size a := fun i v75 k0_hw2 k0_h2 => k0_hw2.2 k0_h2

def k0_off27 (k0_t3 : Fin k0_t3_loop.trips) (c0_i32_45 : BitVec 32) : Fin 3 → Nat :=
  let c0_i32_21 : BitVec 32 := 0#32
  let c1_i32_22 : BitVec 32 := 1#32
  let arg7 : BitVec 32 := Scf.iv c0_i32_21 c1_i32_22 k0_t3
  let c4_i32_40 : BitVec 32 := 4#32
  let v122 : BitVec 32 := Scalar.divsi arg7 c4_i32_40
  let c32_i32_41 : BitVec 32 := 32#32
  let v123 : BitVec 32 := Scalar.muli v122 c32_i32_41
  let c4_i32_42 : BitVec 32 := 4#32
  let v124 : BitVec 32 := Scalar.muli v123 c4_i32_42
  let c4_i32_43 : BitVec 32 := 4#32
  let v125 : BitVec 32 := Scalar.remsi arg7 c4_i32_43
  let v126 : BitVec 32 := Scalar.addi v124 v125
  let v142 : BitVec 32 := Scalar.addi v126 c0_i32_45
  let v144 : Index := Scalar.indexCast v142
  let c0_46 : Index := 0#32
  ![v144.toNat, 0, 0]
def cc0_transform_0 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c49_i32 : BitVec 32 := 49#32
  let v0 : BitVec 32 := Scalar.minsi arg0 c49_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S320x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x128 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F]
-- ==== ReferenceIdeal.lean ====
abbrev S4x8192 : Shape := ⟨2, ![4, 8192]⟩
abbrev S16000x2048 : Shape := ⟨2, ![16000, 2048]⟩
abbrev S16000x128 : Shape := ⟨2, ![16000, 128]⟩
abbrev S16000x128x1 : Shape := ⟨3, ![16000, 128, 1]⟩
abbrev S_ : Shape := ⟨0, ![]⟩
abbrev S16000x128x16 : Shape := ⟨3, ![16000, 128, 16]⟩
abbrev S16000x128x16x1 : Shape := ⟨4, ![16000, 128, 16, 1]⟩
abbrev S16000x128x16x2 : Shape := ⟨4, ![16000, 128, 16, 2]⟩
abbrev S16000x4096 : Shape := ⟨2, ![16000, 4096]⟩
abbrev S4x8192x1 : Shape := ⟨3, ![4, 8192, 1]⟩
abbrev S1 : Shape := ⟨1, ![1]⟩
abbrev S1x1x1 : Shape := ⟨3, ![1, 1, 1]⟩
abbrev S4x8192x4096 : Shape := ⟨3, ![4, 8192, 4096]⟩

abbrev nBuf : Space → Nat
  | .hbm => 54
  | .vmem => 2
  | .smem => 0
  | _ => 0

abbrev bufTy : (tb : Table) → Fin (tcTables nBuf tb) → BufTy
  | .hbm, ⟨0, _⟩ => ⟨S4x8192, .i32⟩
  | .hbm, ⟨1, _⟩ => ⟨S16000x2048, .i8⟩
  | .hbm, ⟨2, _⟩ => ⟨S16000x128, .i16⟩
  | .hbm, ⟨3, _⟩ => ⟨S16000x2048, .i32⟩
  | .hbm, ⟨4, _⟩ => ⟨S16000x128, .f32⟩
  | .hbm, ⟨5, _⟩ => ⟨S16000x128x1, .f32⟩
  | .hbm, ⟨6, _⟩ => ⟨S_, .i32⟩
  | .hbm, ⟨7, _⟩ => ⟨S16000x2048, .i32⟩
  | .hbm, ⟨8, _⟩ => ⟨S16000x2048, .i32⟩
  | .hbm, ⟨9, _⟩ => ⟨S16000x2048, .f32⟩
  | .hbm, ⟨10, _⟩ => ⟨S_, .f32⟩
  | .hbm, ⟨11, _⟩ => ⟨S16000x2048, .f32⟩
  | .hbm, ⟨12, _⟩ => ⟨S16000x2048, .f32⟩
  | .hbm, ⟨13, _⟩ => ⟨S_, .i32⟩
  | .hbm, ⟨14, _⟩ => ⟨S16000x2048, .i32⟩
  | .hbm, ⟨15, _⟩ => ⟨S16000x2048, .i32⟩
  | .hbm, ⟨16, _⟩ => ⟨S16000x2048, .f32⟩
  | .hbm, ⟨17, _⟩ => ⟨S_, .f32⟩
  | .hbm, ⟨18, _⟩ => ⟨S16000x2048, .f32⟩
  | .hbm, ⟨19, _⟩ => ⟨S16000x2048, .f32⟩
  | .hbm, ⟨20, _⟩ => ⟨S16000x128x16, .f32⟩
  | .hbm, ⟨21, _⟩ => ⟨S16000x128x16, .f32⟩
  | .hbm, ⟨22, _⟩ => ⟨S16000x128x16, .f32⟩
  | .hbm, ⟨23, _⟩ => ⟨S16000x128x16, .f32⟩
  | .hbm, ⟨24, _⟩ => ⟨S16000x128x16, .f32⟩
  | .hbm, ⟨25, _⟩ => ⟨S16000x128x16, .f32⟩
  | .hbm, ⟨26, _⟩ => ⟨S16000x128x16x1, .f32⟩
  | .hbm, ⟨27, _⟩ => ⟨S16000x128x16x1, .f32⟩
  | .hbm, ⟨28, _⟩ => ⟨S16000x128x16x2, .f32⟩
  | .hbm, ⟨29, _⟩ => ⟨S16000x4096, .f32⟩
  | .hbm, ⟨30, _⟩ => ⟨S16000x4096, .bf16⟩
  | .hbm, ⟨31, _⟩ => ⟨S_, .i32⟩
  | .hbm, ⟨32, _⟩ => ⟨S4x8192, .i32⟩
  | .hbm, ⟨33, _⟩ => ⟨S4x8192, .i1⟩
  | .hbm, ⟨34, _⟩ => ⟨S_, .i32⟩
  | .hbm, ⟨35, _⟩ => ⟨S4x8192, .i32⟩
  | .hbm, ⟨36, _⟩ => ⟨S4x8192, .i32⟩
  | .hbm, ⟨37, _⟩ => ⟨S4x8192, .i32⟩
  | .hbm, ⟨38, _⟩ => ⟨S4x8192x1, .i32⟩
  | .hbm, ⟨39, _⟩ => ⟨S1, .i32⟩
  | .hbm, ⟨40, _⟩ => ⟨S_, .i32⟩
  | .hbm, ⟨41, _⟩ => ⟨S4x8192x1, .i32⟩
  | .hbm, ⟨42, _⟩ => ⟨S4x8192x1, .i1⟩
  | .hbm, ⟨43, _⟩ => ⟨S1x1x1, .i32⟩
  | .hbm, ⟨44, _⟩ => ⟨S4x8192x1, .i32⟩
  | .hbm, ⟨45, _⟩ => ⟨S4x8192x1, .i1⟩
  | .hbm, ⟨46, _⟩ => ⟨S4x8192x1, .i1⟩
  | .hbm, ⟨47, _⟩ => ⟨S_, .i1⟩
  | .hbm, ⟨48, _⟩ => ⟨S4x8192, .i1⟩
  | .hbm, ⟨49, _⟩ => ⟨S4x8192x4096, .bf16⟩
  | .hbm, ⟨50, _⟩ => ⟨S4x8192x4096, .i1⟩
  | .hbm, ⟨51, _⟩ => ⟨S_, .bf16⟩
  | .hbm, ⟨52, _⟩ => ⟨S4x8192x4096, .bf16⟩
  | .hbm, ⟨53, _⟩ => ⟨S4x8192x4096, .bf16⟩
  | .local _ .vmem, ⟨0, _⟩ => ⟨S16000x128, .i16⟩
  | .local _ .vmem, ⟨1, _⟩ => ⟨S16000x128, .f32⟩
  | _, _ => ⟨S4x8192, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_c : Ref sig .tc := ⟨.hbm, 31, rfl⟩
abbrev main_call0_v0 : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_c_1 : Ref sig .tc := ⟨.hbm, 39, rfl⟩
abbrev main_call0_c_2 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_3 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_call0_cst : Ref sig .tc := ⟨.hbm, 51, rfl⟩
abbrev main_call0_v15 : Ref sig .tc := ⟨.hbm, 52, rfl⟩
abbrev main_v24 : Ref sig .tc := ⟨.hbm, 53, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16000x128 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Fill.lean ====
/- The two loops that fill the tables, `Kernel`: each trip reads its rows and stores through the tables, faulting nowhere. -/
module

public import proofs.«01_k».proof.Proof.Gen.Kernel.Skeleton
public import proofs.«01_k».proof.Proof.Gen.Kernel.Loops
public import proofs.«01_k».proof.Proof.Gen.Kernel.Launch

@[expose] public section

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra, no counters beside the points-tos. -/
abbrev UU (nD : Nat) (τ : Topo) : Type := UR sig nD τ
/-- No label is called, so no variants. -/
abbrev 𝒱₀ : Variants := Variants.none

local notation "𝕄" => MT nD τ sig Unit (Elt F) ℕ (UU nD τ) ℕ

/-- A memref's buffer held at contents `f`. -/
abbrev held {sp : Space} {s : Shape} {e : EltTy} (c : Dev nD) (m : Memref sig .tc sp s e) (f : Buf (Elt F) (m.view.loc (c : Thread nD τ))) : sProp 𝕄 :=
  iprop(m.view.loc (c : Thread nD τ) ↦[m.view.set]{fullShare} f)

set_option warn.classDefReducibility false in
/-- The codes' loop: the codes' buffer is read, the table is held at some contents. -/
@[sl_loop] noncomputable def loopInv_k0_t1 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (arg0 : BitVec 32) (k0_h1 : k0_cond1 i = 1#1)
    (f2 : Buf (Elt F) (arg2.view.loc (c : Thread nD τ))) :
    LoopInvTy_k0_t1 (F := F) Unit ℕ (UU nD τ) ℕ 𝒱₀ c none Set.univ i arg1 harg1 arg2 harg2 arg3 harg3 arg4 harg4 arg5 harg5 arg6 harg6 arg0 k0_h1 where
  inv := fun _ _ => iprop(held c arg2 f2 ∗ ∃ f, held c arg5 f)
  step := fun k acc => by
    unfold k0_t1_body
    iintro ⟨H2, ⟨%f5, H5⟩⟩
    sl_exec
    sl_step
    isplitl [H2]; · iexact H2
    iexists _; iexact H5

set_option warn.classDefReducibility false in
/-- The scales' loop: the scales' buffer is read, the split table is held at some contents. -/
@[sl_loop] noncomputable def loopInv_k0_t2 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (arg0 : BitVec 32) (k0_h1 : k0_cond1 i = 1#1)
    (f3 : Buf (Elt F) (arg3.view.loc (c : Thread nD τ))) :
    LoopInvTy_k0_t2 (F := F) Unit ℕ (UU nD τ) ℕ 𝒱₀ c none Set.univ i arg1 harg1 arg2 harg2 arg3 harg3 arg4 harg4 arg5 harg5 arg6 harg6 arg0 k0_h1 where
  inv := fun _ _ => iprop(held c arg3 f3 ∗ ∃ f, held c arg6 f)
  step := fun k acc => by
    unfold k0_t2_body
    iintro ⟨H3, ⟨%f6, H6⟩⟩
    sl_exec
    sl_step
    isplitl [H3]; · iexact H3
    iexists _; iexact H6

end Cert.Proof.Kernel

end
-- ==== Proof.Kernel.Lookup.lean ====
/- The lookup's loop, `Kernel`: with every id in range no trip faults. -/
module

public import proofs.«01_k».proof.Proof.Kernel.Fill

@[expose] public section

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

/-- A word that names a row of the tables. -/
def InRange (w : BitVec 32) : Prop := 0 ≤ w.toInt ∧ w.toInt < 16000

/-- A token's pair row and its seven copies 8001 rows apart lie in the table, and its scale row in the split table. -/
theorem chk1_of_inRange (i : grid0.Coords) (w : BitVec 32) (h : InRange w) : k0_chk1 i w := by
  have hw : Affine.IsInt w w.toInt := Affine.word w
  have h1 : Affine.IsInt (Scalar.shrsi w 1#32) (w.toInt / 2) :=
    Affine.shrsi hw (Affine.ofNat 1 (by omega) : Affine.IsInt 1#32 1) 1 2 (by decide) ⟨by omega, by decide, by decide⟩
  have n1 : ((Scalar.indexCast (Scalar.shrsi w 1#32)).toNat : Int) = w.toInt / 2 :=
    Affine.toNat_of (Affine.indexCast h1) (by unfold InRange at h; omega)
  have n0 : ((Scalar.indexCast w).toNat : Int) = w.toInt := Affine.toNat_of (Affine.indexCast hw) h.1
  obtain ⟨ha, hb⟩ := h
  refine ⟨fun _ a => ?_, fun _ a => ?_⟩
  · fin_cases a
    · right
      show (Scalar.indexCast (Scalar.shrsi w 1#32)).toNat + 8001 * 7 < 64008
      omega
    · right; show 0 + 1 * (128 - 1) < 128; decide
  · fin_cases a
    · show (Scalar.indexCast w).toNat + 1 ≤ 16000
      omega
    · show 0 + 128 ≤ 128; decide

theorem chk2_of_inRange (i : grid0.Coords) (w : BitVec 32) (h : InRange w) : k0_chk2 i w := chk1_of_inRange i w h

/-- The output's block as pairs of rows: the shape the lookup stores through. -/
abbrev pairs (arg4 : Memref sig .tc .vmem S8192x128 .bf16) (harg4 : arg4.IsWhole) : Memref sig .tc .vmem S4096x2x128 .bf16 :=
  arg4.reshape S4096x2x128 reshapes_S8192x128_S4096x2x128.1 reshapes_S8192x128_S4096x2x128.2 harg4.contiguous

set_option warn.classDefReducibility false in
/-- The lookup's loop: the ids are read (all in range), the tables are read, the block is held at some contents. -/
@[sl_loop] noncomputable def loopInv_k0_t3 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (k0_h2 : k0_cond2 i = 1#1) (v35 : IVec S8x128 32) (v52 : BitVec 32) (v63 : BitVec 32)
    (f1 : Buf (Elt F) (arg1.view.loc (c : Thread nD τ))) (f5 : Buf (Elt F) (arg5.view.loc (c : Thread nD τ))) (f6 : Buf (Elt F) (arg6.view.loc (c : Thread nD τ))) :
    LoopInvTy_k0_t3 (F := F) Unit ℕ (UU nD τ) ℕ 𝒱₀ c none Set.univ i arg1 harg1 arg2 harg2 arg3 harg3 arg4 harg4 arg5 harg5 arg6 harg6 k0_h2 v35 v52 v63 where
  inv := fun _ _ => iprop(⌜∀ j, InRange (arg1.view.read (Elt F) f1 j)⌝ ∗ (arg1.view.loc (c : Thread nD τ) ↦[arg1.view.set]{fullShare.right} f1) ∗ held c arg5 f5 ∗ held c arg6 f6 ∗ ∃ f, held c (pairs arg4 harg4) f)
  step := fun k acc => by
    unfold k0_t3_body
    iintro ⟨%hids, H1, H5, H6, ⟨%f4, H4⟩⟩
    sl_exec (disch := first | exact chk1_of_inRange _ _ (hids _) | exact chk2_of_inRange _ _ (hids _))
    sl_step
    isplitr; · ipureintro; exact hids
    isplitl [H1]; · iexact H1
    isplitl [H5]; · iexact H5
    isplitl [H6]; · iexact H6
    iexists _; iexact H4

end Cert.Proof.Kernel

end
-- ==== Proof.Kernel.Body.lean ====
/- One run of the body, `Kernel`: with every id in range it faults nowhere and gives back what it was handed. -/
module

public import proofs.«01_k».proof.Proof.Kernel.Lookup

@[expose] public section

set_option maxRecDepth 65536
set_option maxHeartbeats 4000000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UU nD τ) ℕ

/-- The block held through its pair shape is the block held. -/
theorem held_pairs (c : Dev nD) (arg4 : Memref sig .tc .vmem S8192x128 .bf16) (harg4 : arg4.IsWhole)
    (f : Buf (Elt F) (arg4.view.loc (c : Thread nD τ))) :
    (held c (pairs arg4 harg4) f : sProp 𝕄) = held c arg4 f := by
  show iprop(arg4.view.loc (c : Thread nD τ) ↦[(pairs arg4 harg4).view.set]{fullShare} f) = _
  rw [show (pairs arg4 harg4).view.set = arg4.view.set from View.set_reshape ..]

/-- The body at one point: ids read, the inputs' buffers read, the output's buffer and the tables at some contents. -/
theorem body_run (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole)
    (f1 : Buf (Elt F) (arg1.view.loc (c : Thread nD τ))) (f2 : Buf (Elt F) (arg2.view.loc (c : Thread nD τ))) (f3 : Buf (Elt F) (arg3.view.loc (c : Thread nD τ)))
    (hids : ∀ j, InRange (arg1.view.read (Elt F) f1 j)) (K : PUnit → sProp 𝕄) :
    iprop((arg1.view.loc (c : Thread nD τ) ↦[arg1.view.set]{fullShare.right} f1) ∗ held c arg2 f2 ∗ held c arg3 f3
        ∗ (∃ f, held c arg4 f) ∗ (∃ f, held c arg5 f) ∗ (∃ f, held c arg6 f)
        ∗ (iprop((arg1.view.loc (c : Thread nD τ) ↦[arg1.view.set]{fullShare.right} f1) ∗ held c arg2 f2 ∗ held c arg3 f3
        ∗ (∃ f, held c arg4 f) ∗ (∃ f, held c arg5 f) ∗ (∃ f, held c arg6 f)) -∗ K ⟨⟩))
      ⊢ wp frame (wpE (defs₀ (F := F)) 𝒱₀ c none) Set.univ (cc0__body i arg1 harg1 arg2 harg2 arg3 harg3 arg4 harg4 arg5 harg5 arg6 harg6) K := by
  simp only [cc0__body_eq_skeleton]; unfold cc0__body_skel
  simp only [← held_pairs c arg4 harg4]
  by_cases h1 : k0_cond1 i = 1#1 <;> by_cases h2 : k0_cond2 i = 1#1 <;> simp only [h1, h2, dite_true, dite_false]
  all_goals
    iintro ⟨H1, H2, H3, ⟨%f4, H4⟩, ⟨%f5, H5⟩, ⟨%f6, H6⟩, Hk⟩
    sl_exec
    sl_step
    iapply Hk
    isplitl [H1]; · iexact H1
    isplitl [H2]; · iexact H2
    isplitl [H3]; · iexact H3
    isplitl [H4]; · iexists _; iexact H4
    isplitl [H5]; · iexists _; iexact H5
    iexists _; iexact H6

end Cert.Proof.Kernel

end
-- ==== Proof.Kernel.Frame.lean ====
/- The frame, `Kernel`: the whole program terminates and leaves its arguments and its counters as they were. -/
module

public import proofs.«01_k».proof.Defs
public import proofs.«01_k».proof.Proof.Kernel.Body
public import Idealize.ShloMosaic.Lib.Pipeline.FrameBody
public import Idealize.ShloMosaic.Lib.Pipeline.FrameSuffix
public import Idealize.ShloMosaic.Lib.StableHlo.Predicate

@[expose] public section

set_option maxRecDepth 65536
set_option maxHeartbeats 400000

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [BitOps F]

local notation "𝕄" => MT nD τ sig Unit (Elt F) ℕ (UU nD τ) ℕ

variable (m : (ℓ : Loc nD τ sig) → Buf (Elt F) ℓ) (ρ : Dev nD → PrngReg)

/-- The contents the region finds: the launch's, no host line precedes it. -/
abbrev V0 (c : Dev nD) : Valuation τ sig (Elt F) := fun b => m (c, b)
/-- The same at a reference. -/
abbrev V (c : Dev nD) (b : Ref sig .tc) : Buf (Elt F) ((c : Thread nD τ).loc b) := V0 m c (Proc.devRef .tc b)

/-- The one prefetched table, the ids. -/
def adm : (p : Fin 1) → (pcfgs (F := F) p).Adm := fun _ => ⟨fun k => V m 0 (pre0.ref k), trivial⟩

/-- The pipeline at the ids. -/
abbrev pcfg : Cfg sig Λ₀ := Pipeline.pin (pcfgs (F := F)) (adm m) 0

/-- Window `w`'s block at point `t`, off its array as the region finds it. -/
def iblk (c : Dev nD) (w : Fin 3) (t : Fin (pcfg m).N) : ((pcfg m).win w).block.Idx → Elt F ((pcfg m).win w).elt :=
  (((pcfg m).win w).blk t).view.read (Elt F) (V m c (Pipeline.arrRef spec0 w))

/-- The proof data: the arrays as found, the inputs' buffers at their blocks, the output's contents not stated. -/
def dats (p : Fin 1) (c : Dev nD) : Dat τ (Elt F) Unit ℕ (UU nD τ) ℕ (Pipeline.pin (pcfgs (F := F)) (adm m) p) c where
  A w := V m c (Pipeline.arrRef spec0 w)
  after w t := iblk m c w t
  Φ _ := iprop(Pipeline.ΦA spec0 c ∗ Pipeline.ΦT pre0 (adm m p).1 c)
  q _ := fullShare
  owed _ := 0

/-- The output's contents are forgotten. -/
def fgt : Fin 3 → Bool := fun w => w == 2

theorem A_eq (c : Dev nD) (w : Fin 3) : (dats m 0 c).A w = V m c (Pipeline.arrRef spec0 w) := by dsimp only [dats]
theorem after_eq (c : Dev nD) (w : Fin 3) (t) : (dats m 0 c).after w t = iblk m c w t := by dsimp only [dats]
theorem Φ_eq (c : Dev nD) (t) : (dats m 0 c).Φ t = iprop(Pipeline.ΦA spec0 c ∗ Pipeline.ΦT pre0 (adm m 0).1 c) := by dsimp only [dats]

/-- The codes' buffer holds its block at every point. -/
theorem before_0 (c : Dev nD) (t : Fin (pcfg m).N) (d) : (dats m 0 c).before 0 t d = iblk m c 0 t :=
  ((dats m 0 c).before_in_eq_fetched 0 rfl (fun _ => rfl) (fun _ _ _ => rfl) (fun t => by rw [after_eq]; unfold Dat.blockOf iblk; rw [A_eq]; try rfl) t d).trans
    (by unfold Dat.fetched Dat.blockOf iblk; rw [A_eq]; try rfl)
/-- The scales' buffer holds its block at every point. -/
theorem before_1 (c : Dev nD) (t : Fin (pcfg m).N) (d) : (dats m 0 c).before 1 t d = iblk m c 1 t :=
  ((dats m 0 c).before_in_eq_fetched 1 rfl (fun _ => rfl) (fun _ _ _ => rfl) (fun t => by rw [after_eq]; unfold Dat.blockOf iblk; rw [A_eq]; try rfl) t d).trans
    (by unfold Dat.fetched Dat.blockOf iblk; rw [A_eq]; try rfl)

/-- The ids' table held is its buffer held. -/
theorem ΦT_eq (c : Dev nD) : (Pipeline.ΦT pre0 (adm m 0).1 c : sProp 𝕄)
    = iprop((c : Thread nD τ).loc main_arg0 ↦{fullShare.right} V m 0 main_arg0) := by
  show bigSep Finset.univ (fun k : Fin 1 => _) = _
  rw [bigSep_univ_eq_bigSepL [(0 : Fin 1)] (by decide) (by decide)]
  rfl

variable (hids : ∀ j, InRange (V m 0 main_arg0 j))
include hids

/-- What the body is called with at point `t`, and what it returns but for the tallies. -/
def bodyHas (c : Dev nD) (t : Fin (pcfg m).N) (d0 : ((pcfg m).win 0).block.Idx → Elt F ((pcfg m).win 0).elt) (d1 : ((pcfg m).win 1).block.Idx → Elt F ((pcfg m).win 1).elt) : sProp 𝕄 :=
  iprop(owns (c : Thread nD τ) (spec0_0.stage ((pcfg m).slots t 0)) fullShare d0
    ∗ owns (c : Thread nD τ) (spec0_1.stage ((pcfg m).slots t 1)) fullShare d1
    ∗ ∃ X, owns (c : Thread nD τ) (spec0_2.stage ((pcfg m).slots t 2)) fullShare X)

omit hids in
theorem whole_pts (c : Dev nD) (b : Ref sig .tc) (q : PosShare TreeShare) (f : Buf (Elt F) ((Memref.whole b).view.loc (c : Thread nD τ))) :
    (iprop((Memref.whole b).view.loc (c : Thread nD τ) ↦[(Memref.whole b).view.set]{q} f) : sProp 𝕄) = iprop((c : Thread nD τ).loc b ↦{q} f) := by
  simp only [Memref.view_whole, View.set_whole]

/-- The body's call at point `t`. -/
abbrev bodyAt (t : Fin (pcfg m).N) : Prog (TpuEff nD τ sig (Elt F) Λ₀ .tc) PUnit :=
  cc0__body (grid0.coords t) (Memref.whole main_arg0) (Memref.isWhole_whole _) (spec0_0.stage ((pcfg m).slots t 0)) (hstage0_0 (((pcfg m).slots t 0).cast nbuf0_0)) (spec0_1.stage ((pcfg m).slots t 1)) (hstage0_1 (((pcfg m).slots t 1).cast nbuf0_1)) (spec0_2.stage ((pcfg m).slots t 2)) (hstage0_2 (((pcfg m).slots t 2).cast nbuf0_2)) (Memref.whole cc0_scratch0) (Memref.isWhole_whole _) (Memref.whole cc0_scratch1) (Memref.isWhole_whole _)

/-- The body's triple at point `t`, over what the launch hands it. -/
theorem sound_body (c : Dev nD) (t : Fin (pcfg m).N) :
    iprop(iprop(Pipeline.ΦA spec0 c ∗ Pipeline.ΦT pre0 (adm m 0).1 c) ∗ (dats m 0 c).owesAt () t.castSucc
      ∗ (∃ d, owns (c : Thread nD τ) (spec0_0.stage ((pcfg m).slots t 0)) fullShare ((dats m 0 c).before 0 t d))
      ∗ (∃ d, owns (c : Thread nD τ) (spec0_1.stage ((pcfg m).slots t 1)) fullShare ((dats m 0 c).before 1 t d))
      ∗ (∃ X, owns (c : Thread nD τ) (spec0_2.stage ((pcfg m).slots t 2)) fullShare X))
    ⊢ wp frame (wpE (defs₀ (F := F)) 𝒱₀ c none) Set.univ (bodyAt m t) (fun _ =>
      iprop(iprop(Pipeline.ΦA spec0 c ∗ Pipeline.ΦT pre0 (adm m 0).1 c) ∗ (dats m 0 c).owesAt () t.castSucc
      ∗ owns (c : Thread nD τ) (spec0_0.stage ((pcfg m).slots t 0)) fullShare (iblk m c 0 t)
      ∗ owns (c : Thread nD τ) (spec0_1.stage ((pcfg m).slots t 1)) fullShare (iblk m c 1 t)
      ∗ (∃ X, owns (c : Thread nD τ) (spec0_2.stage ((pcfg m).slots t 2)) fullShare X))) := by
  simp only [before_0, before_1]
  rw [ΦT_eq]
  unfold Pipeline.ΦA
  rw [scopedRest0_eq]
  unfold owns
  iintro ⟨⟨⟨⟨⟨%f5, H5⟩, ⟨%f6, H6⟩⟩, Hp⟩, H1⟩, Ho, ⟨%d0, %f2, %hf2, H2⟩, ⟨%d1, %f3, %hf3, H3⟩, ⟨%X, %f4, -, H4⟩⟩
  iapply (body_run c (grid0.coords t) (Memref.whole main_arg0) (Memref.isWhole_whole _) _ _ _ _ _ _ (Memref.whole cc0_scratch0) (Memref.isWhole_whole _) (Memref.whole cc0_scratch1) (Memref.isWhole_whole _) (V m 0 main_arg0) f2 f3 (by
    intro j; exact hids j) _)
  simp only [held, Memref.view_whole, View.set_whole]
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H1, H2, H3, ⟨%g4, H4⟩, ⟨%g5, H5⟩, ⟨%g6, H6⟩⟩
  isplitl [H1 H5 H6 Hp]
  · isplitr [H1]
    · isplitr [Hp]
      · isplitl [H5]
        · iexists _; iexact H5
        · iexists _; iexact H6
      · iexact Hp
    · iexact H1
  isplitl [Ho]; · iexact Ho
  isplitl [H2]
  · iexists f2; isplitr; · ipureintro; exact hf2
    iexact H2
  isplitl [H3]
  · iexists f3; isplitr; · ipureintro; exact hf3
    iexact H3
  iexists _; iexists g4; isplitr; · ipureintro; rfl
  iexact H4

omit hids in
theorem defs₀_row (t : Fin (pcfg m).N) :
    defs₀ (F := F) .tc (pcfg m).body ((pcfg m).bodyArgs t ((pcfg m).slots t)) = bodyAt m t := by
  unfold defs₀; rw [Defs.onTc_tc]

/-- The body's obligation at every point. -/
theorem body_obligation (c : Dev nD) : BodyObligationLoose (dats (F := F) m 0 c) (defs₀ (F := F)) 𝒱₀ () Set.univ fgt := fun t => by
  rw [show (Finset.univ : Finset (Fin (pcfg m).W)) = (Finset.univ : Finset (Fin 3)) from rfl, bigSep_W0, bigSep_W0, defs₀_row]
  simp only [Φ_eq, after_eq]
  exact triple_restated (sound_body m hids c t) rfl .rfl fun _ => .rfl

omit hids in
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl | rfl <;> intro k <;> fin_cases k <;> simp only [StableHlo.unary_bufs, StableHlo.reshape_bufs] <;> decide
omit hids in
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl | rfl <;> rfl
omit hids in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals intro w; fin_cases w <;> simp only [StableHlo.unary_writes, StableHlo.reshape_writes, Finset.mem_singleton] <;> decide
/-- The buffers the host lines write. -/
def T : Finset (Ref sig .tc) := {main_v1, main_v2, main_v3}
omit hids in
theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  subst hops
  simp only [hostOps1, List.mem_cons, List.mem_nil_iff, or_false] at hop
  rcases hop with rfl | rfl | rfl <;> intro b hb <;>
    simp only [StableHlo.unary_writes, StableHlo.reshape_writes, Finset.mem_singleton] at hb <;>
    have := Proc.devRef_injective .tc hb <;> subst this <;> decide

omit [BitOps F] hids in
theorem arg0_rest : main_arg0 ∈ Pipeline.restRefs sig spec0 \ T := by decide

omit hids in
theorem hmain : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [] [hostOps1] (by simp only [List.Forall]) (by simp only [List.Forall]) main_chain

set_option backward.isDefEq.respectTransparency.types false in
/-- The launch: the arguments and the counters end as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frameP_around_T_forget pcfgs (adm m) (dats m) (0 : Fin 1) launch0 defs₀ 𝒱₀ fgt T m ρ main
    (hbody := body_obligation m hids) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m) (hA := A_eq m) (hpf := fun c k => by rw [Subsingleton.elim c 0]; rfl) (hΦ := Φ_eq m)
    (Q' := _) (hQ' := fun r h => ⟨fun c => ⟨(h.1 c).2 main_arg0 arg0_rest, h.1.arr_in c 0 rfl, h.1.arr_in c 1 rfl⟩, h.2⟩)

end Cert.Proof.Kernel

end
-- ==== Proof.Kernel.Claim.lean ====
/- The frame claim, `Kernel`: the precondition says every id is in range, which is what the body needs. -/
module

public import proofs.«01_k».proof.Proof.Kernel.Frame
public import proofs.«01_k».proof.Proof.Gen.Pre_ids_in_range

@[expose] public section

noncomputable section

namespace Cert.Proof.Kernel

open Cert.Kernel Cert.Kernel.Gen
open Idealize.ShloMosaic Idealize.ShloMosaic.TcCoe Idealize.SL.Sem

/-- An id the printed predicate admits names a row. -/
theorem inRange_of_pre {F : FTy → Type} [FloatOps F] (ids : IVec Cert.Pre_ids_in_range.S4x8192 32) (a1 : IVec Cert.Pre_ids_in_range.S16000x2048 8) (a2 : IVec Cert.Pre_ids_in_range.S16000x128 16)
    (h : Cert.Pre_ids_in_range.fn (F := F) ids a1 a2 = fun _ => 1#1) (j) : InRange (ids j) := by
  have e := congrFun h j
  have e' : IntOp.andi (IntOp.cmpi .sge (ids j) 0#32) (IntOp.cmpi .slt (ids j) 16000#32) = 1#1 := e
  have h1 : IntOp.cmpi .sge (ids j) 0#32 = 1#1 ∧ IntOp.cmpi .slt (ids j) 16000#32 = 1#1 := by
    revert e'
    generalize IntOp.cmpi .sge (ids j) 0#32 = x
    generalize IntOp.cmpi .slt (ids j) 16000#32 = y
    revert x y; decide
  have h2 := IntOp.cmpi_sge.mp h1.1
  have h3 := IntOp.cmpi_slt.mp h1.2
  exact ⟨h2, h3⟩

/-- The frame. -/
theorem frame_Kernel : Cert.quiescent_Kernel := fun m ρ hpre =>
  frame_run m ρ (fun j => inRange_of_pre _ _ _ (hpre 0) j)

end Cert.Proof.Kernel

end
-- ==== Proof.KernelIdeal.Base.lean ====
/- What the runs of `KernelIdeal` share: the held buffers, the ids in range, the block seen as pairs of rows. -/
module

public import proofs.«01_k».proof.Proof.Gen.KernelIdeal.Skeleton
public import proofs.«01_k».proof.Proof.Gen.KernelIdeal.Loops
public import proofs.«01_k».proof.Proof.Gen.KernelIdeal.Launch

@[expose] public section

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra, no counters beside the points-tos. -/
abbrev UU (nD : Nat) (τ : Topo) : Type := UR sig nD τ
/-- No label is called, so no variants. -/
abbrev 𝒱₀ : Variants := Variants.none

local notation "𝕄" => MT nD τ sig Unit (Elt F) ℕ (UU nD τ) ℕ

/-- A memref's buffer held at contents `f`. -/
abbrev held {sp : Space} {s : Shape} {e : EltTy} (c : Dev nD) (m : Memref sig .tc sp s e) (f : Buf (Elt F) (m.view.loc (c : Thread nD τ))) : sProp 𝕄 :=
  iprop(m.view.loc (c : Thread nD τ) ↦[m.view.set]{fullShare} f)

/-- A word that names a row of the tables. -/
def InRange (w : BitVec 32) : Prop := 0 ≤ w.toInt ∧ w.toInt < 16000

/-- A token's pair row and its seven copies 8001 rows apart lie in the table, and its scale row in the split table. -/
theorem chk1_of_inRange (i : grid0.Coords) (w : BitVec 32) (h : InRange w) : k0_chk1 i w := by
  have hw : Affine.IsInt w w.toInt := Affine.word w
  have h1 : Affine.IsInt (Scalar.shrsi w 1#32) (w.toInt / 2) :=
    Affine.shrsi hw (Affine.ofNat 1 (by omega) : Affine.IsInt 1#32 1) 1 2 (by decide) ⟨by omega, by decide, by decide⟩
  have n1 : ((Scalar.indexCast (Scalar.shrsi w 1#32)).toNat : Int) = w.toInt / 2 :=
    Affine.toNat_of (Affine.indexCast h1) (by unfold InRange at h; omega)
  have n0 : ((Scalar.indexCast w).toNat : Int) = w.toInt := Affine.toNat_of (Affine.indexCast hw) h.1
  obtain ⟨ha, hb⟩ := h
  refine ⟨fun _ a => ?_, fun _ a => ?_⟩
  · fin_cases a
    · right
      show (Scalar.indexCast (Scalar.shrsi w 1#32)).toNat + 8001 * 7 < 64008
      omega
    · right; show 0 + 1 * (128 - 1) < 128; decide
  · fin_cases a
    · show (Scalar.indexCast w).toNat + 1 ≤ 16000
      omega
    · show 0 + 128 ≤ 128; decide

theorem chk2_of_inRange (i : grid0.Coords) (w : BitVec 32) (h : InRange w) : k0_chk2 i w := chk1_of_inRange i w h

/-- The output's block as pairs of rows: the shape the lookup stores through. -/
abbrev pairs (arg4 : Memref sig .tc .vmem S8192x128 .bf16) (harg4 : arg4.IsWhole) : Memref sig .tc .vmem S4096x2x128 .bf16 :=
  arg4.reshape S4096x2x128 reshapes_S8192x128_S4096x2x128.1 reshapes_S8192x128_S4096x2x128.2 harg4.contiguous

/-- The block held through its pair shape is the block held. -/
theorem held_pairs (c : Dev nD) (arg4 : Memref sig .tc .vmem S8192x128 .bf16) (harg4 : arg4.IsWhole)
    (f : Buf (Elt F) (arg4.view.loc (c : Thread nD τ))) :
    (held c (pairs arg4 harg4) f : sProp 𝕄) = held c arg4 f := by
  show iprop(arg4.view.loc (c : Thread nD τ) ↦[(pairs arg4 harg4).view.set]{fullShare} f) = _
  rw [show (pairs arg4 harg4).view.set = arg4.view.set from View.set_reshape ..]

end Cert.Proof.KernelIdeal

end
-- ==== Proof.KernelIdeal.Fill.lean ====
/- The two loops that fill the tables, `KernelIdeal`: each trip reads its rows and stores through the tables, faulting nowhere. -/
module

public import proofs.«01_k».proof.Proof.KernelIdeal.Base

@[expose] public section

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

set_option warn.classDefReducibility false in
/-- The codes' loop: the codes' buffer is read, the table is held at some contents. -/
@[sl_loop] noncomputable def loopInv_k0_t1 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (arg0 : BitVec 32) (k0_h1 : k0_cond1 i = 1#1)
    (f2 : Buf (Elt F) (arg2.view.loc (c : Thread nD τ))) :
    LoopInvTy_k0_t1 (F := F) Unit ℕ (UU nD τ) ℕ 𝒱₀ c none Set.univ i arg1 harg1 arg2 harg2 arg3 harg3 arg4 harg4 arg5 harg5 arg6 harg6 arg0 k0_h1 where
  inv := fun _ _ => iprop(held c arg2 f2 ∗ ∃ f, held c arg5 f)
  step := fun k acc => by
    unfold k0_t1_body
    iintro ⟨H2, ⟨%f5, H5⟩⟩
    sl_exec
    sl_step
    isplitl [H2]; · iexact H2
    iexists _; iexact H5

set_option warn.classDefReducibility false in
/-- The scales' loop: the scales' buffer is read, the split table is held at some contents. -/
@[sl_loop] noncomputable def loopInv_k0_t2 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (arg0 : BitVec 32) (k0_h1 : k0_cond1 i = 1#1)
    (f3 : Buf (Elt F) (arg3.view.loc (c : Thread nD τ))) :
    LoopInvTy_k0_t2 (F := F) Unit ℕ (UU nD τ) ℕ 𝒱₀ c none Set.univ i arg1 harg1 arg2 harg2 arg3 harg3 arg4 harg4 arg5 harg5 arg6 harg6 arg0 k0_h1 where
  inv := fun _ _ => iprop(held c arg3 f3 ∗ ∃ f, held c arg6 f)
  step := fun k acc => by
    unfold k0_t2_body
    iintro ⟨H3, ⟨%f6, H6⟩⟩
    sl_exec
    sl_step
    isplitl [H3]; · iexact H3
    iexists _; iexact H6

end Cert.Proof.KernelIdeal

end
-- ==== Proof.KernelIdeal.Lookup.lean ====
/- The lookup's loop, `KernelIdeal`: with every id in range no trip faults. -/
module

public import proofs.«01_k».proof.Proof.KernelIdeal.Fill

@[expose] public section

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

set_option warn.classDefReducibility false in
/-- The lookup's loop: the ids are read (all in range), the tables are read, the block is held at some contents. -/
@[sl_loop] noncomputable def loopInv_k0_t3 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (k0_h2 : k0_cond2 i = 1#1) (v35 : IVec S8x128 32) (v52 : BitVec 32) (v63 : BitVec 32)
    (f1 : Buf (Elt F) (arg1.view.loc (c : Thread nD τ))) (f5 : Buf (Elt F) (arg5.view.loc (c : Thread nD τ))) (f6 : Buf (Elt F) (arg6.view.loc (c : Thread nD τ))) :
    LoopInvTy_k0_t3 (F := F) Unit ℕ (UU nD τ) ℕ 𝒱₀ c none Set.univ i arg1 harg1 arg2 harg2 arg3 harg3 arg4 harg4 arg5 harg5 arg6 harg6 k0_h2 v35 v52 v63 where
  inv := fun _ _ => iprop(⌜∀ j, InRange (arg1.view.read (Elt F) f1 j)⌝ ∗ (arg1.view.loc (c : Thread nD τ) ↦[arg1.view.set]{fullShare.right} f1) ∗ held c arg5 f5 ∗ held c arg6 f6 ∗ ∃ f, held c (pairs arg4 harg4) f)
  step := fun k acc => by
    unfold k0_t3_body
    iintro ⟨%hids, H1, H5, H6, ⟨%f4, H4⟩⟩
    sl_exec (disch := first | exact chk1_of_inRange _ _ (hids _) | exact chk2_of_inRange _ _ (hids _))
    sl_step
    isplitr; · ipureintro; exact hids
    isplitl [H1]; · iexact H1
    isplitl [H5]; · iexact H5
    isplitl [H6]; · iexact H6
    iexists _; iexact H4

end Cert.Proof.KernelIdeal

end
-- ==== Proof.KernelIdeal.Body.lean ====
/- One run of the body, `KernelIdeal`: with every id in range it faults nowhere and gives back what it was handed. -/
module

public import proofs.«01_k».proof.Proof.KernelIdeal.Lookup

@[expose] public section

set_option maxRecDepth 65536
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- The body at one point: ids read, the inputs' buffers read, the output's buffer and the tables at some contents. -/
theorem body_run (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole)
    (f1 : Buf (Elt F) (arg1.view.loc (c : Thread nD τ))) (f2 : Buf (Elt F) (arg2.view.loc (c : Thread nD τ))) (f3 : Buf (Elt F) (arg3.view.loc (c : Thread nD τ)))
    (hids : ∀ j, InRange (arg1.view.read (Elt F) f1 j)) (K : PUnit → sProp 𝕄) :
    iprop((arg1.view.loc (c : Thread nD τ) ↦[arg1.view.set]{fullShare.right} f1) ∗ held c arg2 f2 ∗ held c arg3 f3
        ∗ (∃ f, held c arg4 f) ∗ (∃ f, held c arg5 f) ∗ (∃ f, held c arg6 f)
        ∗ (iprop((arg1.view.loc (c : Thread nD τ) ↦[arg1.view.set]{fullShare.right} f1) ∗ held c arg2 f2 ∗ held c arg3 f3
        ∗ (∃ f, held c arg4 f) ∗ (∃ f, held c arg5 f) ∗ (∃ f, held c arg6 f)) -∗ K ⟨⟩))
      ⊢ wp frame (wpE (defs₀ (F := F)) 𝒱₀ c none) Set.univ (cc0__body i arg1 harg1 arg2 harg2 arg3 harg3 arg4 harg4 arg5 harg5 arg6 harg6) K := by
  simp only [cc0__body_eq_skeleton]; unfold cc0__body_skel
  simp only [← held_pairs c arg4 harg4]
  by_cases h1 : k0_cond1 i = 1#1 <;> by_cases h2 : k0_cond2 i = 1#1 <;> simp only [h1, h2, dite_true, dite_false]
  all_goals
    iintro ⟨H1, H2, H3, ⟨%f4, H4⟩, ⟨%f5, H5⟩, ⟨%f6, H6⟩, Hk⟩
    sl_exec
    sl_step
    iapply Hk
    isplitl [H1]; · iexact H1
    isplitl [H2]; · iexact H2
    isplitl [H3]; · iexact H3
    isplitl [H4]; · iexists _; iexact H4
    isplitl [H5]; · iexists _; iexact H5
    iexists _; iexact H6

end Cert.Proof.KernelIdeal

end
-- ==== Proof.KernelIdeal.Frame.lean ====
/- The frame, `KernelIdeal`: the whole program terminates and leaves its arguments and its counters as they were. -/
module

public import proofs.«01_k».proof.Defs
public import proofs.«01_k».proof.Proof.KernelIdeal.Body
public import Idealize.ShloMosaic.Lib.Pipeline.FrameBody
public import Idealize.ShloMosaic.Lib.Pipeline.FrameSuffix
public import Idealize.ShloMosaic.Lib.StableHlo.Predicate

@[expose] public section

set_option maxRecDepth 65536
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

/-- The contents the region finds: the launch's, no host line precedes it. -/
abbrev V0 (c : Dev nD) : Valuation τ sig (Elt F) := fun b => m (c, b)
/-- The same at a reference. -/
abbrev V (c : Dev nD) (b : Ref sig .tc) : Buf (Elt F) ((c : Thread nD τ).loc b) := V0 m c (Proc.devRef .tc b)

/-- The one prefetched table, the ids. -/
def adm : (p : Fin 1) → (pcfgs (F := F) p).Adm := fun _ => ⟨fun k => V m 0 (pre0.ref k), trivial⟩

/-- The pipeline at the ids. -/
abbrev pcfg : Cfg sig Λ₀ := Pipeline.pin (pcfgs (F := F)) (adm m) 0

/-- Window `w`'s block at point `t`, off its array as the region finds it. -/
def iblk (c : Dev nD) (w : Fin 3) (t : Fin (pcfg m).N) : ((pcfg m).win w).block.Idx → Elt F ((pcfg m).win w).elt :=
  (((pcfg m).win w).blk t).view.read (Elt F) (V m c (Pipeline.arrRef spec0 w))

/-- The proof data: the arrays as found, the inputs' buffers at their blocks, the output's contents not stated. -/
def dats (p : Fin 1) (c : Dev nD) : Dat τ (Elt F) Unit ℕ (UU nD τ) ℕ (Pipeline.pin (pcfgs (F := F)) (adm m) p) c where
  A w := V m c (Pipeline.arrRef spec0 w)
  after w t := iblk m c w t
  Φ _ := iprop(Pipeline.ΦA spec0 c ∗ Pipeline.ΦT pre0 (adm m p).1 c)
  q _ := fullShare
  owed _ := 0

/-- The output's contents are forgotten. -/
def fgt : Fin 3 → Bool := fun w => w == 2

theorem A_eq (c : Dev nD) (w : Fin 3) : (dats m 0 c).A w = V m c (Pipeline.arrRef spec0 w) := by dsimp only [dats]
theorem after_eq (c : Dev nD) (w : Fin 3) (t) : (dats m 0 c).after w t = iblk m c w t := by dsimp only [dats]
theorem Φ_eq (c : Dev nD) (t) : (dats m 0 c).Φ t = iprop(Pipeline.ΦA spec0 c ∗ Pipeline.ΦT pre0 (adm m 0).1 c) := by dsimp only [dats]

/-- The codes' buffer holds its block at every point. -/
theorem before_0 (c : Dev nD) (t : Fin (pcfg m).N) (d) : (dats m 0 c).before 0 t d = iblk m c 0 t :=
  ((dats m 0 c).before_in_eq_fetched 0 rfl (fun _ => rfl) (fun _ _ _ => rfl) (fun t => by rw [after_eq]; unfold Dat.blockOf iblk; rw [A_eq]; try rfl) t d).trans
    (by unfold Dat.fetched Dat.blockOf iblk; rw [A_eq]; try rfl)
/-- The scales' buffer holds its block at every point. -/
theorem before_1 (c : Dev nD) (t : Fin (pcfg m).N) (d) : (dats m 0 c).before 1 t d = iblk m c 1 t :=
  ((dats m 0 c).before_in_eq_fetched 1 rfl (fun _ => rfl) (fun _ _ _ => rfl) (fun t => by rw [after_eq]; unfold Dat.blockOf iblk; rw [A_eq]; try rfl) t d).trans
    (by unfold Dat.fetched Dat.blockOf iblk; rw [A_eq]; try rfl)

/-- The ids' table held is its buffer held. -/
theorem ΦT_eq (c : Dev nD) : (Pipeline.ΦT pre0 (adm m 0).1 c : sProp 𝕄)
    = iprop((c : Thread nD τ).loc main_arg0 ↦{fullShare.right} V m 0 main_arg0) := by
  show bigSep Finset.univ (fun k : Fin 1 => _) = _
  rw [bigSep_univ_eq_bigSepL [(0 : Fin 1)] (by decide) (by decide)]
  rfl

variable (hids : ∀ j, InRange (V m 0 main_arg0 j))
include hids

/-- What the body is called with at point `t`, and what it returns but for the tallies. -/
def bodyHas (c : Dev nD) (t : Fin (pcfg m).N) (d0 : ((pcfg m).win 0).block.Idx → Elt F ((pcfg m).win 0).elt) (d1 : ((pcfg m).win 1).block.Idx → Elt F ((pcfg m).win 1).elt) : sProp 𝕄 :=
  iprop(owns (c : Thread nD τ) (spec0_0.stage ((pcfg m).slots t 0)) fullShare d0
    ∗ owns (c : Thread nD τ) (spec0_1.stage ((pcfg m).slots t 1)) fullShare d1
    ∗ ∃ X, owns (c : Thread nD τ) (spec0_2.stage ((pcfg m).slots t 2)) fullShare X)

omit hids in
theorem whole_pts (c : Dev nD) (b : Ref sig .tc) (q : PosShare TreeShare) (f : Buf (Elt F) ((Memref.whole b).view.loc (c : Thread nD τ))) :
    (iprop((Memref.whole b).view.loc (c : Thread nD τ) ↦[(Memref.whole b).view.set]{q} f) : sProp 𝕄) = iprop((c : Thread nD τ).loc b ↦{q} f) := by
  simp only [Memref.view_whole, View.set_whole]

/-- The body's call at point `t`. -/
abbrev bodyAt (t : Fin (pcfg m).N) : Prog (TpuEff nD τ sig (Elt F) Λ₀ .tc) PUnit :=
  cc0__body (grid0.coords t) (Memref.whole main_arg0) (Memref.isWhole_whole _) (spec0_0.stage ((pcfg m).slots t 0)) (hstage0_0 (((pcfg m).slots t 0).cast nbuf0_0)) (spec0_1.stage ((pcfg m).slots t 1)) (hstage0_1 (((pcfg m).slots t 1).cast nbuf0_1)) (spec0_2.stage ((pcfg m).slots t 2)) (hstage0_2 (((pcfg m).slots t 2).cast nbuf0_2)) (Memref.whole cc0_scratch0) (Memref.isWhole_whole _) (Memref.whole cc0_scratch1) (Memref.isWhole_whole _)

/-- The body's triple at point `t`, over what the launch hands it. -/
theorem sound_body (c : Dev nD) (t : Fin (pcfg m).N) :
    iprop(iprop(Pipeline.ΦA spec0 c ∗ Pipeline.ΦT pre0 (adm m 0).1 c) ∗ (dats m 0 c).owesAt () t.castSucc
      ∗ (∃ d, owns (c : Thread nD τ) (spec0_0.stage ((pcfg m).slots t 0)) fullShare ((dats m 0 c).before 0 t d))
      ∗ (∃ d, owns (c : Thread nD τ) (spec0_1.stage ((pcfg m).slots t 1)) fullShare ((dats m 0 c).before 1 t d))
      ∗ (∃ X, owns (c : Thread nD τ) (spec0_2.stage ((pcfg m).slots t 2)) fullShare X))
    ⊢ wp frame (wpE (defs₀ (F := F)) 𝒱₀ c none) Set.univ (bodyAt m t) (fun _ =>
      iprop(iprop(Pipeline.ΦA spec0 c ∗ Pipeline.ΦT pre0 (adm m 0).1 c) ∗ (dats m 0 c).owesAt () t.castSucc
      ∗ owns (c : Thread nD τ) (spec0_0.stage ((pcfg m).slots t 0)) fullShare (iblk m c 0 t)
      ∗ owns (c : Thread nD τ) (spec0_1.stage ((pcfg m).slots t 1)) fullShare (iblk m c 1 t)
      ∗ (∃ X, owns (c : Thread nD τ) (spec0_2.stage ((pcfg m).slots t 2)) fullShare X))) := by
  simp only [before_0, before_1]
  rw [ΦT_eq]
  unfold Pipeline.ΦA
  rw [scopedRest0_eq]
  unfold owns
  iintro ⟨⟨⟨⟨⟨%f5, H5⟩, ⟨%f6, H6⟩⟩, Hp⟩, H1⟩, Ho, ⟨%d0, %f2, %hf2, H2⟩, ⟨%d1, %f3, %hf3, H3⟩, ⟨%X, %f4, -, H4⟩⟩
  iapply (body_run c (grid0.coords t) (Memref.whole main_arg0) (Memref.isWhole_whole _) _ _ _ _ _ _ (Memref.whole cc0_scratch0) (Memref.isWhole_whole _) (Memref.whole cc0_scratch1) (Memref.isWhole_whole _) (V m 0 main_arg0) f2 f3 (by
    intro j; exact hids j) _)
  simp only [held, Memref.view_whole, View.set_whole]
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H1, H2, H3, ⟨%g4, H4⟩, ⟨%g5, H5⟩, ⟨%g6, H6⟩⟩
  isplitl [H1 H5 H6 Hp]
  · isplitr [H1]
    · isplitr [Hp]
      · isplitl [H5]
        · iexists _; iexact H5
        · iexists _; iexact H6
      · iexact Hp
    · iexact H1
  isplitl [Ho]; · iexact Ho
  isplitl [H2]
  · iexists f2; isplitr; · ipureintro; exact hf2
    iexact H2
  isplitl [H3]
  · iexists f3; isplitr; · ipureintro; exact hf3
    iexact H3
  iexists _; iexists g4; isplitr; · ipureintro; rfl
  iexact H4

omit hids in
theorem defs₀_row (t : Fin (pcfg m).N) :
    defs₀ (F := F) .tc (pcfg m).body ((pcfg m).bodyArgs t ((pcfg m).slots t)) = bodyAt m t := by
  unfold defs₀; rw [Defs.onTc_tc]

/-- The body's obligation at every point. -/
theorem body_obligation (c : Dev nD) : BodyObligationLoose (dats (F := F) m 0 c) (defs₀ (F := F)) 𝒱₀ () Set.univ fgt := fun t => by
  rw [show (Finset.univ : Finset (Fin (pcfg m).W)) = (Finset.univ : Finset (Fin 3)) from rfl, bigSep_W0, bigSep_W0, defs₀_row]
  simp only [Φ_eq, after_eq]
  exact triple_restated (sound_body m hids c t) rfl .rfl fun _ => .rfl

omit hids in
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl | rfl <;> intro k <;> fin_cases k <;> simp only [StableHlo.unary_bufs, StableHlo.reshape_bufs] <;> decide
omit hids in
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  rcases hop with rfl | rfl | rfl <;> rfl
omit hids in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl
  all_goals intro w; fin_cases w <;> simp only [StableHlo.unary_writes, StableHlo.reshape_writes, Finset.mem_singleton] <;> decide
/-- The buffers the host lines write. -/
def T : Finset (Ref sig .tc) := {main_v1, main_v2, main_v3}
omit hids in
theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  subst hops
  simp only [hostOps1, List.mem_cons, List.mem_nil_iff, or_false] at hop
  rcases hop with rfl | rfl | rfl <;> intro b hb <;>
    simp only [StableHlo.unary_writes, StableHlo.reshape_writes, Finset.mem_singleton] at hb <;>
    have := Proc.devRef_injective .tc hb <;> subst this <;> decide

omit [FloatOps F] hids in
theorem arg0_rest : main_arg0 ∈ Pipeline.restRefs sig spec0 \ T := by decide

omit hids in
theorem hmain : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [] [hostOps1] (by simp only [List.Forall]) (by simp only [List.Forall]) main_chain

set_option backward.isDefEq.respectTransparency.types false in
/-- The launch: the arguments and the counters end as they were. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frameP_around_T_forget pcfgs (adm m) (dats m) (0 : Fin 1) launch0 defs₀ 𝒱₀ fgt T m ρ main
    (hbody := body_obligation m hids) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m) (hA := A_eq m) (hpf := fun c k => by rw [Subsingleton.elim c 0]; rfl) (hΦ := Φ_eq m)
    (Q' := _) (hQ' := fun r h => ⟨fun c => ⟨(h.1 c).2 main_arg0 arg0_rest, h.1.arr_in c 0 rfl, h.1.arr_in c 1 rfl⟩, h.2⟩)

end Cert.Proof.KernelIdeal

end
-- ==== Proof.KernelIdeal.Claim.lean ====
/- The frame claim, `KernelIdeal`: the precondition says every id is in range, which is what the body needs. -/
module

public import proofs.«01_k».proof.Proof.KernelIdeal.Frame
public import proofs.«01_k».proof.Proof.Gen.Pre_ids_in_range

@[expose] public section

noncomputable section

namespace Cert.Proof.KernelIdeal

open Cert.KernelIdeal Cert.KernelIdeal.Gen
open Idealize.ShloMosaic Idealize.ShloMosaic.TcCoe Idealize.SL.Sem

/-- An id the printed predicate admits names a row. -/
theorem inRange_of_pre {F : FTy → Type} [FloatOps F] (ids : IVec Cert.Pre_ids_in_range.S4x8192 32) (a1 : IVec Cert.Pre_ids_in_range.S16000x2048 8) (a2 : IVec Cert.Pre_ids_in_range.S16000x128 16)
    (h : Cert.Pre_ids_in_range.fn (F := F) ids a1 a2 = fun _ => 1#1) (j) : InRange (ids j) := by
  have e := congrFun h j
  have e' : IntOp.andi (IntOp.cmpi .sge (ids j) 0#32) (IntOp.cmpi .slt (ids j) 16000#32) = 1#1 := e
  have h1 : IntOp.cmpi .sge (ids j) 0#32 = 1#1 ∧ IntOp.cmpi .slt (ids j) 16000#32 = 1#1 := by
    revert e'
    generalize IntOp.cmpi .sge (ids j) 0#32 = x
    generalize IntOp.cmpi .slt (ids j) 16000#32 = y
    revert x y; decide
  have h2 := IntOp.cmpi_sge.mp h1.1
  have h3 := IntOp.cmpi_slt.mp h1.2
  exact ⟨h2, h3⟩

/-- The frame. -/
theorem frame_KernelIdeal : Cert.quiescent_KernelIdeal := fun m ρ hpre =>
  frame_run m ρ (fun j => inRange_of_pre _ _ _ (hpre 0) j)

end Cert.Proof.KernelIdeal

end
-- ==== Proof.Value.Table.lean ====
/- What one trip of the first filling loop computes: eight rows of table words, told by their nibbles. -/
module

public import proofs.«01_k».proof.Proof.Gen.KernelIdeal.Skeleton
public import Idealize.ShloMosaic.Lib.BitcastFour
public import Idealize.ShloMosaic.Lib.Pointwise.Reshape
public import Mathlib.Tactic.IntervalCases

@[expose] public section

set_option maxRecDepth 65536
set_option maxHeartbeats 400000

noncomputable section

namespace Cert.Proof.Value

open Cert.KernelIdeal Cert.KernelIdeal.Gen
open Idealize.ShloMosaic hiding ix1 ix2 ix3 ix4 eq_ix1 eq_ix2 eq_ix3
open Idealize.ShloMosaic.ValueIdx

variable {F : FTy → Type} [FloatOps F]

/-- A block of codes packed: the word of row `r` has, in byte pair `u`, the codes of rows `4r + 2u` and `4r + 2u + 1`. -/
abbrev half (x : Vec F S32x128 .i8) : IVec S8x128 32 := k0_pay12 k0_pay1 k0_pay2 k0_pay3 x
/-- The table words of the even pairs. -/
abbrev lowW (x y : Vec F S32x128 .i8) : IVec S8x128 32 := packElementwiseI16 (half x) (half y)
/-- The table words of the odd pairs. -/
abbrev highW (x y : Vec F S32x128 .i8) : IVec S8x128 32 :=
  packElementwiseI16 (shrui (half x) (broadcast S8x128 16#32)) (shrui (half y) (broadcast S8x128 16#32))

/-- One word of `half`, from the two words that it gathers and the shift. -/
def halfWord (A B sh : BitVec 32) : BitVec 32 :=
  ((((A >>> sh) &&& 252645135#32) ||| ((((A >>> sh) >>> 8) &&& 252645135#32) <<< 4)) &&& 16711935#32)
    ||| (((((B >>> sh) &&& 252645135#32) ||| ((((B >>> sh) >>> 8) &&& 252645135#32) <<< 4)) &&& 16711935#32) <<< 8)

theorem halfWord_bit (A B : BitVec 32) (u c e p i : Nat) (hu : u < 2) (hc : c < 2) (he : e < 2) (hp : p < 2) (hi : i < 4) :
    (halfWord A B (BitVec.ofNat 32 (4 * p))).getLsbD (16 * u + 8 * c + 4 * e + i)
      = (if c = 0 then A else B).getLsbD (8 * (2 * u + e) + 4 * p + i) := by
  unfold halfWord
  interval_cases u <;> interval_cases c <;> interval_cases e <;> interval_cases p <;> interval_cases i <;>
    simp [BitVec.getLsbD_or, BitVec.getLsbD_and, BitVec.getLsbD_shiftLeft, BitVec.getLsbD_ushiftRight]

theorem there_back (v : IVec S8x128 32) :
    shapeCast S8x128 (shapeCast S8x128x1 v shapeCasts_S8x128_S8x128x1) shapeCasts_S8x128x1_S8x128 = v := by
  rw [shapeCast_comp, shapeCast_id]

theorem pay1_apply (r : Fin 8) (L : Fin 128) : k0_pay1 (ix2 r L) = BitVec.ofNat 32 (L.val / 2) := by
  have h : ∀ L : Fin 128, IntOp.shrsi .vector (BitVec.ofNat 32 (0 * 128 + L.val)) 1#32 = BitVec.ofNat 32 (L.val / 2) := by decide +kernel
  exact h L
theorem pay2_apply (r : Fin 8) (L : Fin 128) : k0_pay2 (ix2 r L) = BitVec.ofNat 32 (64 + L.val / 2) := by
  have h : ∀ L : Fin 128, IntOp.addi (IntOp.shrsi .vector (BitVec.ofNat 32 (0 * 128 + L.val)) 1#32) 64#32 = BitVec.ofNat 32 (64 + L.val / 2) := by decide +kernel
  exact h L
theorem pay3_apply (r : Fin 8) (L : Fin 128) : k0_pay3 (ix2 r L) = BitVec.ofNat 32 (4 * (L.val % 2)) := by
  have h : ∀ L : Fin 128, IntOp.muli (IntOp.andi (BitVec.ofNat 32 (0 * 128 + L.val)) 1#32) 4#32 = BitVec.ofNat 32 (4 * (L.val % 2)) := by decide +kernel
  exact h L

/-- A gather along the lanes, read at an index. -/
theorem lanes_apply {α : Type} (x : S8x128.Idx → α) (idx : IVec S8x128 32) (r : Fin 8) (L : Fin 128) (n : Nat) (hn : n < 128)
    (h : idx (ix2 r L) = BitVec.ofNat 32 n) : dynamicGather (s := S8x128) 1 x idx (ix2 r L) = x (ix2 r ⟨n, hn⟩) := by
  unfold dynamicGather
  congr 1
  funext b
  match b with
  | ⟨0, _⟩ => rfl
  | ⟨1, _⟩ =>
    refine Fin.ext ?_
    show (idx (ix2 r L)).toNat % 128 = n
    rw [h, BitVec.toNat_ofNat]; omega

theorem shrui_apply' (x y : IVec S8x128 32) (j) (h : (y j).toNat < 32) : shrui x y j = x j >>> y j := if_pos h
theorem shli_apply' (x y : IVec S8x128 32) (j) (h : (y j).toNat < 32) : shli x y j = x j <<< y j := if_pos h

theorem half_word (x : Vec F S32x128 .i8) (r : Fin 8) (L : Fin 128) :
    half x (ix2 r L) = halfWord
      (bitcast S8x128 32 x bitcasts_S32x128_w8_S8x128_w32 (ix2 r ⟨L.val / 2, by omega⟩) ^^^ 2290649224#32)
      (bitcast S8x128 32 x bitcasts_S32x128_w8_S8x128_w32 (ix2 r ⟨64 + L.val / 2, by omega⟩) ^^^ 2290649224#32)
      (BitVec.ofNat 32 (4 * (L.val % 2))) := by
  have h3 : (k0_pay3 (ix2 r L)).toNat < 32 := by rw [pay3_apply, BitVec.toNat_ofNat]; omega
  unfold half k0_pay12 halfWord
  simp only [there_back]
  have e1 := lanes_apply (xori (bitcast S8x128 32 x bitcasts_S32x128_w8_S8x128_w32) (broadcast S8x128 2290649224#32)) k0_pay1 r L
    (L.val / 2) (by omega) (pay1_apply r L)
  have e2 := lanes_apply (xori (bitcast S8x128 32 x bitcasts_S32x128_w8_S8x128_w32) (broadcast S8x128 2290649224#32)) k0_pay2 r L
    (64 + L.val / 2) (by omega) (pay2_apply r L)
  have s1 := shrui_apply' (dynamicGather 1 (xori (bitcast S8x128 32 x bitcasts_S32x128_w8_S8x128_w32) (broadcast S8x128 2290649224#32)) k0_pay1) k0_pay3 (ix2 r L) h3
  have s2 := shrui_apply' (dynamicGather 1 (xori (bitcast S8x128 32 x bitcasts_S32x128_w8_S8x128_w32) (broadcast S8x128 2290649224#32)) k0_pay2) k0_pay3 (ix2 r L) h3
  rw [e1, pay3_apply] at s1
  rw [e2, pay3_apply] at s2
  generalize shrui (dynamicGather 1 (xori (bitcast S8x128 32 x bitcasts_S32x128_w8_S8x128_w32) (broadcast S8x128 2290649224#32)) k0_pay1) k0_pay3 = a at s1 ⊢
  generalize shrui (dynamicGather 1 (xori (bitcast S8x128 32 x bitcasts_S32x128_w8_S8x128_w32) (broadcast S8x128 2290649224#32)) k0_pay2) k0_pay3 = b at s2 ⊢
  show (((a (ix2 r L) &&& 252645135#32) ||| (((a (ix2 r L) >>> 8) &&& 252645135#32) <<< 4)) &&& 16711935#32)
    ||| ((((b (ix2 r L) &&& 252645135#32) ||| (((b (ix2 r L) >>> 8) &&& 252645135#32) <<< 4)) &&& 16711935#32) <<< 8) = _
  rw [s1, s2]
  rfl

/-- A table word, from its own step's two halves. -/
theorem pack_bit (u v : BitVec 32) (h k : Nat) (hh : h < 2) (hk : k < 16) :
    ((0#32 ||| ((u.setWidth 16).setWidth 32 <<< (0 * 16))) ||| ((v.setWidth 16).setWidth 32 <<< (1 * 16))).getLsbD (16 * h + k)
      = (if h = 0 then u else v).getLsbD k := by
  interval_cases h <;> interval_cases k <;> simp [BitVec.getLsbD_or, BitVec.getLsbD_shiftLeft, BitVec.getLsbD_setWidth]

/-- The signed code in the low (`p = 0`) or high half of a byte, as a nibble. -/
def snib (b : BitVec 8) (p : Nat) : BitVec 4 := b.extractLsb' (4 * p) 4 ^^^ 8#4

theorem key_bit (p e u i : Nat) (hp : p < 2) (he : e < 2) (hu : u < 2) (hi : i < 4) :
    (2290649224#32).getLsbD (8 * (2 * u + e) + 4 * p + i) = (8#4).getLsbD i := by
  interval_cases p <;> interval_cases e <;> interval_cases u <;> interval_cases i <;> rfl

theorem half_bit (x : Vec F S32x128 .i8) (r : Fin 8) (L : Fin 128) (u c e i : Nat) (hu : u < 2) (hc : c < 2) (he : e < 2) (hi : i < 4) :
    (half x (ix2 r L)).getLsbD (16 * u + 8 * c + 4 * e + i)
      = (snib (x (ix2 ⟨4 * r.val + 2 * u + e, by omega⟩ ⟨64 * c + L.val / 2, by omega⟩)) (L.val % 2)).getLsbD i := by
  have hp : L.val % 2 < 2 := by omega
  rw [half_word, halfWord_bit _ _ u c e _ i hu hc he hp hi]
  unfold snib
  rw [BitVec.getLsbD_xor, BitVec.getLsbD_extractLsb', ← key_bit (L.val % 2) e u i hp he hu hi, decide_eq_true hi, Bool.true_and]
  have hb := bitcast_8_32_getLsbD_ix2 (R := 32) (r := 8) (n := 128) x bitcasts_S32x128_w8_S8x128_w32 r ⟨64 * c + L.val / 2, by omega⟩
    (8 * (2 * u + e) + 4 * (L.val % 2) + i) (by omega) ⟨4 * r.val + 2 * u + e, by omega⟩ (by show _ = _; dsimp only; omega)
  rw [show (8 * (2 * u + e) + 4 * (L.val % 2) + i) % 8 = 4 * (L.val % 2) + i by omega] at hb
  rw [← hb]
  obtain rfl | rfl : c = 0 ∨ c = 1 := by omega
  · rw [if_pos rfl, BitVec.getLsbD_xor]
    simp only [Nat.mul_zero, Nat.zero_add]
  · rw [if_neg (by decide), BitVec.getLsbD_xor]

/-- The nibble of an even pair's table word. -/
theorem lowW_nib (x y : Vec F S32x128 .i8) (r : Fin 8) (L : Fin 128) (h c e : Nat) (hh : h < 2) (hc : c < 2) (he : e < 2) :
    (lowW x y (ix2 r L)).extractLsb' (16 * h + 8 * c + 4 * e) 4
      = snib ((if h = 0 then x else y) (ix2 ⟨4 * r.val + e, by omega⟩ ⟨64 * c + L.val / 2, by omega⟩)) (L.val % 2) := by
  apply BitVec.eq_of_getLsbD_eq
  intro i hi
  rw [BitVec.getLsbD_extractLsb', decide_eq_true hi, Bool.true_and]
  have := pack_bit (half x (ix2 r L)) (half y (ix2 r L)) h (8 * c + 4 * e + i) hh (by omega)
  rw [show 16 * h + 8 * c + 4 * e + i = 16 * h + (8 * c + 4 * e + i) by omega]
  refine this.trans ?_
  obtain rfl | rfl : h = 0 ∨ h = 1 := by omega
  · rw [if_pos rfl, if_pos rfl]
    have hb := half_bit x r L 0 c e i (by omega) hc he hi
    simp only [Nat.mul_zero, Nat.zero_add, Nat.add_zero] at hb
    exact hb
  · rw [if_neg (by decide), if_neg (by decide)]
    have hb := half_bit y r L 0 c e i (by omega) hc he hi
    simp only [Nat.mul_zero, Nat.zero_add, Nat.add_zero] at hb
    exact hb

/-- The nibble of an odd pair's table word. -/
theorem highW_nib (x y : Vec F S32x128 .i8) (r : Fin 8) (L : Fin 128) (h c e : Nat) (hh : h < 2) (hc : c < 2) (he : e < 2) :
    (highW x y (ix2 r L)).extractLsb' (16 * h + 8 * c + 4 * e) 4
      = snib ((if h = 0 then x else y) (ix2 ⟨4 * r.val + 2 + e, by omega⟩ ⟨64 * c + L.val / 2, by omega⟩)) (L.val % 2) := by
  apply BitVec.eq_of_getLsbD_eq
  intro i hi
  rw [BitVec.getLsbD_extractLsb', decide_eq_true hi, Bool.true_and]
  have := pack_bit (half x (ix2 r L) >>> 16) (half y (ix2 r L) >>> 16) h (8 * c + 4 * e + i) hh (by omega)
  rw [show 16 * h + 8 * c + 4 * e + i = 16 * h + (8 * c + 4 * e + i) by omega]
  refine this.trans ?_
  obtain rfl | rfl : h = 0 ∨ h = 1 := by omega
  · rw [if_pos rfl, if_pos rfl, ← half_bit x r L 1 c e i (by omega) hc he hi, BitVec.getLsbD_ushiftRight]
    congr 1; omega
  · rw [if_neg (by decide), if_neg (by decide), ← half_bit y r L 1 c e i (by omega) hc he hi, BitVec.getLsbD_ushiftRight]
    congr 1; omega

end Cert.Proof.Value

end
-- ==== Proof.Value.TableLoop.lean ====
/- The table through the first filling loop: which codes its rows hold after each trip. -/
module

public import proofs.«01_k».proof.Proof.Value.Table
public import proofs.«01_k».proof.Proof.KernelIdeal.Base

@[expose] public section

set_option maxRecDepth 65536
set_option maxHeartbeats 400000

noncomputable section

namespace Cert.Proof.Value

open Cert.KernelIdeal Cert.KernelIdeal.Gen
open Cert.Proof.KernelIdeal (UU 𝒱₀ held)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A fact `Q` of the element at every index survives a run of stores, each of whose payloads has it, if the elements that
    no store reaches had it before. -/
theorem read_writes_fact {sig : RefSig} {κ : Kind} {sp : Space} {s : Shape} {e : EltTy} {Val : EltTy → Type}
    (v : View sig κ sp s e) (f : v.ty.Contents Val) (Q : s.Idx → Val e → Prop) (y : s.Idx) :
    ∀ L : List (View.Piece Val s e), (∀ p ∈ L, ∀ x : p.1.shape.Idx, Q (p.1.emb x) (p.2 x)) →
      ((∃ p ∈ L, y ∈ p.1.set) ∨ Q y (v.read Val f y)) → Q y (v.read Val (v.writes Val f L) y)
  | [], _, h => by
    rcases h with ⟨_, hm, _⟩ | h
    · exact absurd hm List.not_mem_nil
    · exact h
  | p :: L, hQ, h => by
    by_cases hy : y ∈ p.1.set
    · obtain ⟨x, rfl⟩ : ∃ x, p.1.emb x = y := p.1.exists_idx_of_mem hy
      obtain ⟨r, w⟩ := p
      rw [View.read_writes_cons_emb]
      exact hQ ⟨r, w⟩ List.mem_cons_self x
    · rw [View.read_writes_cons_miss v f p L y hy]
      refine read_writes_fact v f Q y L (fun p' hp' => hQ p' (List.mem_cons_of_mem _ hp')) ?_
      rcases h with ⟨p', hm, hy'⟩ | h
      · rcases List.mem_cons.mp hm with rfl | hm
        · exact absurd hy' hy
        · exact Or.inl ⟨p', hm, hy'⟩
      · exact Or.inr h

/-- A value carrying a name for what it holds. -/
def tag {α β : Type} (_ : α) (x : β) : β := x

/-- The table's word at an index holds the codes of the pairs below `n`: of copy `s`, pair `P`, byte `2h + c`, parity `e`. -/
def CodesAt (C : Nat → Nat → BitVec 8) (n : Nat) (y : S64008x128.Idx) (w : BitVec 32) : Prop :=
  ∀ s P h c e, s < 8 → P < 8000 → P < n → h < 2 → c < 2 → e < 2 → (y 0).val = 8001 * s + P →
    w.extractLsb' (16 * h + 8 * c + 4 * e) 4 = snib (C (2 * P + e) (256 * s + 128 * h + 64 * c + (y 1).val / 2)) ((y 1).val % 2)

/-- The codes' buffer holds the 320 rows of block `i`. -/
def BlockIs (C : Nat → Nat → BitVec 8) (i : Nat) (x : S320x2048.Idx → BitVec 8) : Prop :=
  ∀ (a : Fin 320) (b : Fin 2048), x (ix2 a b) = C (320 * i + a.val) b.val

/-- A load of 32 rows and 128 lanes, read at an index. -/
theorem loaded {sp : Space} (v : View sig .tc sp S320x2048 .i8) (f : v.ty.Contents (Elt F)) (C : Nat → Nat → BitVec 8) (i t j : Nat)
    (hf : BlockIs C i (v.read (Elt F) f)) (off : Fin 2 → Nat) (inb) (ho : off = ![32 * t, 128 * j]) (a : Fin 32) (b : Fin 128) :
    View.readAt (Elt F) v (Rect.unit (s := S320x2048) off S32x128.size inb).toLoadRect f (ix2 a b) = C (320 * i + (32 * t + a.val)) (128 * j + b.val) := by
  subst ho
  have h0 := inb 0
  have h1 := inb 1
  change 32 * t + 32 ≤ 320 at h0
  change 128 * j + 128 ≤ 2048 at h1
  have := hf ⟨32 * t + a.val, by omega⟩ ⟨128 * j + b.val, by omega⟩
  rw [← this, View.readAt_apply]
  congr 1
  funext d
  match d with
  | ⟨0, _⟩ => exact Fin.ext (by show 32 * t + 1 * a.val = _; simp)
  | ⟨1, _⟩ => exact Fin.ext (by show 128 * j + 1 * b.val = _; simp)

/-- One store's payload is right, for the two loaded vectors of its copy and the parity `u` of its rows. -/
theorem piece_ok (C : Nat → Nat → BitVec 8) (i t s u : Nat) (hi : i < 50) (ht : t < 10) (hs : s < 8) (hu : u < 2) (x y : Vec F S32x128 .i8)
    (hx : ∀ a b, x (ix2 a b) = C (320 * i + (32 * t + a.val)) (128 * (2 * s) + b.val))
    (hy : ∀ a b, y (ix2 a b) = C (320 * i + (32 * t + a.val)) (128 * (2 * s + 1) + b.val))
    (w : IVec S8x128 32) (hw : w = if u = 0 then lowW x y else highW x y)
    (off : Fin 2 → Nat) (inb pos) (ho : off = ![8001 * s + 160 * i + 16 * t + u, 0]) (z : S8x128.Idx) :
    CodesAt C (160 * i + 16 * t + 16) ((Rect.mk (s := S64008x128) ⟨off, S8x128.size, ![2, 1], inb⟩ pos).emb z) (w z) := by
  subst ho
  obtain ⟨r, L, rfl⟩ : ∃ r L, z = ix2 r L := ⟨_, _, eq_ix2 z⟩
  intro s' P h c e hs' hP hPn hh hc he hrow
  change 8001 * s + 160 * i + 16 * t + u + 2 * r.val = _ at hrow
  have hr := r.isLt
  have e1 : s' = s := by omega
  have e2 : P = 160 * i + 16 * t + u + 2 * r.val := by omega
  subst e1 e2
  have eL : ((Rect.mk (s := S64008x128) ⟨![8001 * s' + 160 * i + 16 * t + u, 0], S8x128.size, ![2, 1], inb⟩ pos).emb (ix2 r L) 1).val = L.val := by
    show 0 + 1 * L.val = _; omega
  rw [eL]
  have hL := L.isLt
  obtain rfl | rfl : u = 0 ∨ u = 1 := by omega
  · rw [hw, if_pos rfl, lowW_nib x y r L h c e hh hc he]
    obtain rfl | rfl : h = 0 ∨ h = 1 := by omega
    · rw [if_pos rfl, hx]; dsimp only; congr 2 <;> omega
    · rw [if_neg (by decide), hy]; dsimp only; congr 2 <;> omega
  · rw [hw, if_neg (by decide), highW_nib x y r L h c e hh hc he]
    obtain rfl | rfl : h = 0 ∨ h = 1 := by omega
    · rw [if_pos rfl, hx]; dsimp only; congr 2 <;> omega
    · rw [if_neg (by decide), hy]; dsimp only; congr 2 <;> omega

/-- The rows that a trip stores, all sixteen stores together. -/
theorem rows_hit (y : S64008x128.Idx) (i t s P : Nat) (hrow : (y 0).val = 8001 * s + P) (hlo : 160 * i + 16 * t ≤ P) (hhi : P < 160 * i + 16 * t + 16)
    (off : Fin 2 → Nat) (inb pos) (ho : off = ![8001 * s + 160 * i + 16 * t + (P - (160 * i + 16 * t)) % 2, 0]) :
    y ∈ (Rect.mk (s := S64008x128) ⟨off, S8x128.size, ![2, 1], inb⟩ pos).set := by
  subst ho
  refine (LoadRect.mem_set _).mpr fun a => ?_
  match a with
  | ⟨0, _⟩ =>
    refine ⟨(P - (160 * i + 16 * t)) / 2, by show _ < 8; omega, ?_⟩
    show (y 0).val = 8001 * s + 160 * i + 16 * t + (P - (160 * i + 16 * t)) % 2 + 2 * ((P - (160 * i + 16 * t)) / 2)
    omega
  | ⟨1, _⟩ =>
    refine ⟨(y 1).val, (y 1).isLt, ?_⟩
    show (y 1).val = 0 + 1 * (y 1).val
    omega

local notation "𝕄" => MT nD τ sig Unit (Elt F) ℕ (UU nD τ) ℕ

theorem cond1_lt : ∀ i : grid0.Coords, k0_cond1 i = 1#1 → (i 0).val < 50 := by decide +kernel

/-- The vector of codes that copy `s` loads at column tile `j` (`j = 2s` or `2s + 1`). -/
def codesAt (i : grid0.Coords) (k : Fin k0_t1_loop.trips) (h1 : k0_cond1 i = 1#1) (arg2 : Memref sig .tc .vmem S320x2048 .i8)
    (f2 : arg2.view.ty.Contents (Elt F)) : Nat → Vec F S32x128 .i8
  | 0 => View.readAt (Elt F) arg2.view (Rect.unit (s := S320x2048) (k0_off1 k) S32x128.size (k0_off1_inb i k h1)).toLoadRect f2
  | 1 => View.readAt (Elt F) arg2.view (Rect.unit (s := S320x2048) (k0_off2 k) S32x128.size (k0_off2_inb i k h1)).toLoadRect f2
  | 2 => View.readAt (Elt F) arg2.view (Rect.unit (s := S320x2048) (k0_off5 k) S32x128.size (k0_off5_inb i k h1)).toLoadRect f2
  | 3 => View.readAt (Elt F) arg2.view (Rect.unit (s := S320x2048) (k0_off6 k) S32x128.size (k0_off6_inb i k h1)).toLoadRect f2
  | 4 => View.readAt (Elt F) arg2.view (Rect.unit (s := S320x2048) (k0_off7 k) S32x128.size (k0_off7_inb i k h1)).toLoadRect f2
  | 5 => View.readAt (Elt F) arg2.view (Rect.unit (s := S320x2048) (k0_off8 k) S32x128.size (k0_off8_inb i k h1)).toLoadRect f2
  | 6 => View.readAt (Elt F) arg2.view (Rect.unit (s := S320x2048) (k0_off9 k) S32x128.size (k0_off9_inb i k h1)).toLoadRect f2
  | 7 => View.readAt (Elt F) arg2.view (Rect.unit (s := S320x2048) (k0_off10 k) S32x128.size (k0_off10_inb i k h1)).toLoadRect f2
  | 8 => View.readAt (Elt F) arg2.view (Rect.unit (s := S320x2048) (k0_off11 k) S32x128.size (k0_off11_inb i k h1)).toLoadRect f2
  | 9 => View.readAt (Elt F) arg2.view (Rect.unit (s := S320x2048) (k0_off12 k) S32x128.size (k0_off12_inb i k h1)).toLoadRect f2
  | 10 => View.readAt (Elt F) arg2.view (Rect.unit (s := S320x2048) (k0_off13 k) S32x128.size (k0_off13_inb i k h1)).toLoadRect f2
  | 11 => View.readAt (Elt F) arg2.view (Rect.unit (s := S320x2048) (k0_off14 k) S32x128.size (k0_off14_inb i k h1)).toLoadRect f2
  | 12 => View.readAt (Elt F) arg2.view (Rect.unit (s := S320x2048) (k0_off15 k) S32x128.size (k0_off15_inb i k h1)).toLoadRect f2
  | 13 => View.readAt (Elt F) arg2.view (Rect.unit (s := S320x2048) (k0_off16 k) S32x128.size (k0_off16_inb i k h1)).toLoadRect f2
  | 14 => View.readAt (Elt F) arg2.view (Rect.unit (s := S320x2048) (k0_off17 k) S32x128.size (k0_off17_inb i k h1)).toLoadRect f2
  | _ => View.readAt (Elt F) arg2.view (Rect.unit (s := S320x2048) (k0_off18 k) S32x128.size (k0_off18_inb i k h1)).toLoadRect f2

theorem codesAt_apply (C : Nat → Nat → BitVec 8) (i : grid0.Coords) (k : Fin k0_t1_loop.trips) (h1 : k0_cond1 i = 1#1) (arg2 : Memref sig .tc .vmem S320x2048 .i8)
    (f2 : arg2.view.ty.Contents (Elt F)) (hb : BlockIs C (i 0).val (arg2.view.read (Elt F) f2)) (j : Nat) (hj : j < 16) (a : Fin 32) (b : Fin 128) :
    codesAt i k h1 arg2 f2 j (ix2 a b) = C (320 * (i 0).val + (32 * k.val + a.val)) (128 * j + b.val) := by
  interval_cases j
  · exact loaded arg2.view f2 C _ k.val 0 hb _ _ (k0_off1_eq k) a b
  · exact loaded arg2.view f2 C _ k.val 1 hb _ _ (k0_off2_eq k) a b
  · exact loaded arg2.view f2 C _ k.val 2 hb _ _ (k0_off5_eq k) a b
  · exact loaded arg2.view f2 C _ k.val 3 hb _ _ (k0_off6_eq k) a b
  · exact loaded arg2.view f2 C _ k.val 4 hb _ _ (k0_off7_eq k) a b
  · exact loaded arg2.view f2 C _ k.val 5 hb _ _ (k0_off8_eq k) a b
  · exact loaded arg2.view f2 C _ k.val 6 hb _ _ (k0_off9_eq k) a b
  · exact loaded arg2.view f2 C _ k.val 7 hb _ _ (k0_off10_eq k) a b
  · exact loaded arg2.view f2 C _ k.val 8 hb _ _ (k0_off11_eq k) a b
  · exact loaded arg2.view f2 C _ k.val 9 hb _ _ (k0_off12_eq k) a b
  · exact loaded arg2.view f2 C _ k.val 10 hb _ _ (k0_off13_eq k) a b
  · exact loaded arg2.view f2 C _ k.val 11 hb _ _ (k0_off14_eq k) a b
  · exact loaded arg2.view f2 C _ k.val 12 hb _ _ (k0_off15_eq k) a b
  · exact loaded arg2.view f2 C _ k.val 13 hb _ _ (k0_off16_eq k) a b
  · exact loaded arg2.view f2 C _ k.val 14 hb _ _ (k0_off17_eq k) a b
  · exact loaded arg2.view f2 C _ k.val 15 hb _ _ (k0_off18_eq k) a b

/-- The store of copy `s`'s even rows, and that of its odd rows. -/
abbrev evenRows (i : grid0.Coords) (k : Fin k0_t1_loop.trips) (h1 : k0_cond1 i = 1#1) (s : Fin 8) : Rect S64008x128 :=
  ⟨⟨k0_off3 i k (BitVec.ofNat 32 (8001 * s.val)), S8x128.size, ![2, 1], k0_off3_inb i k h1 s⟩, spos_2_1⟩
@[inherit_doc evenRows]
abbrev oddRows (i : grid0.Coords) (k : Fin k0_t1_loop.trips) (h1 : k0_cond1 i = 1#1) (s : Fin 8) : Rect S64008x128 :=
  ⟨⟨k0_off4 i k (BitVec.ofNat 32 (8001 * s.val)), S8x128.size, ![2, 1], k0_off4_inb i k h1 s⟩, spos_2_1⟩

/-- One trip's stores, the last first. -/
def tripPieces (i : grid0.Coords) (k : Fin k0_t1_loop.trips) (h1 : k0_cond1 i = 1#1) (arg2 : Memref sig .tc .vmem S320x2048 .i8)
    (f2 : arg2.view.ty.Contents (Elt F)) : List (View.Piece (Elt F) S64008x128 .i32) :=
  [⟨oddRows i k h1 7, shapeCast S8x128 (highW (codesAt i k h1 arg2 f2 14) (codesAt i k h1 arg2 f2 15)) shapeCasts_S8x128_S8x128⟩,
   ⟨evenRows i k h1 7, shapeCast S8x128 (lowW (codesAt i k h1 arg2 f2 14) (codesAt i k h1 arg2 f2 15)) shapeCasts_S8x128_S8x128⟩,
   ⟨oddRows i k h1 6, shapeCast S8x128 (highW (codesAt i k h1 arg2 f2 12) (codesAt i k h1 arg2 f2 13)) shapeCasts_S8x128_S8x128⟩,
   ⟨evenRows i k h1 6, shapeCast S8x128 (lowW (codesAt i k h1 arg2 f2 12) (codesAt i k h1 arg2 f2 13)) shapeCasts_S8x128_S8x128⟩,
   ⟨oddRows i k h1 5, shapeCast S8x128 (highW (codesAt i k h1 arg2 f2 10) (codesAt i k h1 arg2 f2 11)) shapeCasts_S8x128_S8x128⟩,
   ⟨evenRows i k h1 5, shapeCast S8x128 (lowW (codesAt i k h1 arg2 f2 10) (codesAt i k h1 arg2 f2 11)) shapeCasts_S8x128_S8x128⟩,
   ⟨oddRows i k h1 4, shapeCast S8x128 (highW (codesAt i k h1 arg2 f2 8) (codesAt i k h1 arg2 f2 9)) shapeCasts_S8x128_S8x128⟩,
   ⟨evenRows i k h1 4, shapeCast S8x128 (lowW (codesAt i k h1 arg2 f2 8) (codesAt i k h1 arg2 f2 9)) shapeCasts_S8x128_S8x128⟩,
   ⟨oddRows i k h1 3, shapeCast S8x128 (highW (codesAt i k h1 arg2 f2 6) (codesAt i k h1 arg2 f2 7)) shapeCasts_S8x128_S8x128⟩,
   ⟨evenRows i k h1 3, shapeCast S8x128 (lowW (codesAt i k h1 arg2 f2 6) (codesAt i k h1 arg2 f2 7)) shapeCasts_S8x128_S8x128⟩,
   ⟨oddRows i k h1 2, shapeCast S8x128 (highW (codesAt i k h1 arg2 f2 4) (codesAt i k h1 arg2 f2 5)) shapeCasts_S8x128_S8x128⟩,
   ⟨evenRows i k h1 2, shapeCast S8x128 (lowW (codesAt i k h1 arg2 f2 4) (codesAt i k h1 arg2 f2 5)) shapeCasts_S8x128_S8x128⟩,
   ⟨oddRows i k h1 1, shapeCast S8x128 (highW (codesAt i k h1 arg2 f2 2) (codesAt i k h1 arg2 f2 3)) shapeCasts_S8x128_S8x128⟩,
   ⟨evenRows i k h1 1, shapeCast S8x128 (lowW (codesAt i k h1 arg2 f2 2) (codesAt i k h1 arg2 f2 3)) shapeCasts_S8x128_S8x128⟩,
   ⟨oddRows i k h1 0, shapeCast S8x128 (highW (codesAt i k h1 arg2 f2 0) (codesAt i k h1 arg2 f2 1)) shapeCasts_S8x128_S8x128⟩,
   ⟨evenRows i k h1 0, shapeCast S8x128 (lowW (codesAt i k h1 arg2 f2 0) (codesAt i k h1 arg2 f2 1)) shapeCasts_S8x128_S8x128⟩]

theorem trip_ok (C : Nat → Nat → BitVec 8) (i : grid0.Coords) (k : Fin k0_t1_loop.trips) (h1 : k0_cond1 i = 1#1) (arg2 : Memref sig .tc .vmem S320x2048 .i8)
    (f2 : arg2.view.ty.Contents (Elt F)) (hb : BlockIs C (i 0).val (arg2.view.read (Elt F) f2)) :
    ∀ p ∈ tripPieces i k h1 arg2 f2, ∀ x : p.1.shape.Idx, CodesAt C (160 * (i 0).val + 16 * k.val + 16) (p.1.emb x) (p.2 x) := by
  have ht : k.val < 10 := Nat.lt_of_lt_of_le k.isLt k0_t1_abs.2.1
  have hi := cond1_lt i h1
  have hx := codesAt_apply C i k h1 arg2 f2 hb
  intro p hp
  simp only [tripPieces, List.mem_cons, List.mem_nil_iff, or_false] at hp
  rcases hp with rfl | rfl | rfl | rfl | rfl | rfl | rfl | rfl | rfl | rfl | rfl | rfl | rfl | rfl | rfl | rfl
  · exact fun z => piece_ok C (i 0).val k.val 7 1 hi ht (by decide) (by decide) (codesAt i k h1 arg2 f2 14) (codesAt i k h1 arg2 f2 15) (hx 14 (by decide)) (hx 15 (by decide)) _ (shapeCast_id _ _) _ _ _ (k0_off4_eq i k 7) z
  · exact fun z => piece_ok C (i 0).val k.val 7 0 hi ht (by decide) (by decide) (codesAt i k h1 arg2 f2 14) (codesAt i k h1 arg2 f2 15) (hx 14 (by decide)) (hx 15 (by decide)) _ (shapeCast_id _ _) _ _ _ (k0_off3_eq i k 7) z
  · exact fun z => piece_ok C (i 0).val k.val 6 1 hi ht (by decide) (by decide) (codesAt i k h1 arg2 f2 12) (codesAt i k h1 arg2 f2 13) (hx 12 (by decide)) (hx 13 (by decide)) _ (shapeCast_id _ _) _ _ _ (k0_off4_eq i k 6) z
  · exact fun z => piece_ok C (i 0).val k.val 6 0 hi ht (by decide) (by decide) (codesAt i k h1 arg2 f2 12) (codesAt i k h1 arg2 f2 13) (hx 12 (by decide)) (hx 13 (by decide)) _ (shapeCast_id _ _) _ _ _ (k0_off3_eq i k 6) z
  · exact fun z => piece_ok C (i 0).val k.val 5 1 hi ht (by decide) (by decide) (codesAt i k h1 arg2 f2 10) (codesAt i k h1 arg2 f2 11) (hx 10 (by decide)) (hx 11 (by decide)) _ (shapeCast_id _ _) _ _ _ (k0_off4_eq i k 5) z
  · exact fun z => piece_ok C (i 0).val k.val 5 0 hi ht (by decide) (by decide) (codesAt i k h1 arg2 f2 10) (codesAt i k h1 arg2 f2 11) (hx 10 (by decide)) (hx 11 (by decide)) _ (shapeCast_id _ _) _ _ _ (k0_off3_eq i k 5) z
  · exact fun z => piece_ok C (i 0).val k.val 4 1 hi ht (by decide) (by decide) (codesAt i k h1 arg2 f2 8) (codesAt i k h1 arg2 f2 9) (hx 8 (by decide)) (hx 9 (by decide)) _ (shapeCast_id _ _) _ _ _ (k0_off4_eq i k 4) z
  · exact fun z => piece_ok C (i 0).val k.val 4 0 hi ht (by decide) (by decide) (codesAt i k h1 arg2 f2 8) (codesAt i k h1 arg2 f2 9) (hx 8 (by decide)) (hx 9 (by decide)) _ (shapeCast_id _ _) _ _ _ (k0_off3_eq i k 4) z
  · exact fun z => piece_ok C (i 0).val k.val 3 1 hi ht (by decide) (by decide) (codesAt i k h1 arg2 f2 6) (codesAt i k h1 arg2 f2 7) (hx 6 (by decide)) (hx 7 (by decide)) _ (shapeCast_id _ _) _ _ _ (k0_off4_eq i k 3) z
  · exact fun z => piece_ok C (i 0).val k.val 3 0 hi ht (by decide) (by decide) (codesAt i k h1 arg2 f2 6) (codesAt i k h1 arg2 f2 7) (hx 6 (by decide)) (hx 7 (by decide)) _ (shapeCast_id _ _) _ _ _ (k0_off3_eq i k 3) z
  · exact fun z => piece_ok C (i 0).val k.val 2 1 hi ht (by decide) (by decide) (codesAt i k h1 arg2 f2 4) (codesAt i k h1 arg2 f2 5) (hx 4 (by decide)) (hx 5 (by decide)) _ (shapeCast_id _ _) _ _ _ (k0_off4_eq i k 2) z
  · exact fun z => piece_ok C (i 0).val k.val 2 0 hi ht (by decide) (by decide) (codesAt i k h1 arg2 f2 4) (codesAt i k h1 arg2 f2 5) (hx 4 (by decide)) (hx 5 (by decide)) _ (shapeCast_id _ _) _ _ _ (k0_off3_eq i k 2) z
  · exact fun z => piece_ok C (i 0).val k.val 1 1 hi ht (by decide) (by decide) (codesAt i k h1 arg2 f2 2) (codesAt i k h1 arg2 f2 3) (hx 2 (by decide)) (hx 3 (by decide)) _ (shapeCast_id _ _) _ _ _ (k0_off4_eq i k 1) z
  · exact fun z => piece_ok C (i 0).val k.val 1 0 hi ht (by decide) (by decide) (codesAt i k h1 arg2 f2 2) (codesAt i k h1 arg2 f2 3) (hx 2 (by decide)) (hx 3 (by decide)) _ (shapeCast_id _ _) _ _ _ (k0_off3_eq i k 1) z
  · exact fun z => piece_ok C (i 0).val k.val 0 1 hi ht (by decide) (by decide) (codesAt i k h1 arg2 f2 0) (codesAt i k h1 arg2 f2 1) (hx 0 (by decide)) (hx 1 (by decide)) _ (shapeCast_id _ _) _ _ _ (k0_off4_eq i k 0) z
  · exact fun z => piece_ok C (i 0).val k.val 0 0 hi ht (by decide) (by decide) (codesAt i k h1 arg2 f2 0) (codesAt i k h1 arg2 f2 1) (hx 0 (by decide)) (hx 1 (by decide)) _ (shapeCast_id _ _) _ _ _ (k0_off3_eq i k 0) z

theorem trip_covers (i : grid0.Coords) (k : Fin k0_t1_loop.trips) (h1 : k0_cond1 i = 1#1) (arg2 : Memref sig .tc .vmem S320x2048 .i8)
    (f2 : arg2.view.ty.Contents (Elt F)) (y : S64008x128.Idx) (s P : Nat) (hs : s < 8) (hrow : (y 0).val = 8001 * s + P)
    (hlo : 160 * (i 0).val + 16 * k.val ≤ P) (hhi : P < 160 * (i 0).val + 16 * k.val + 16) :
    ∃ p ∈ tripPieces (F := F) i k h1 arg2 f2, y ∈ p.1.set := by
  have hodd (hu : (P - (160 * (i 0).val + 16 * k.val)) % 2 = 1) : y ∈ (oddRows i k h1 ⟨s, hs⟩).set :=
    rows_hit y _ _ s P hrow hlo hhi _ _ _ (by rw [hu]; exact k0_off4_eq i k ⟨s, hs⟩)
  have heven (hu : (P - (160 * (i 0).val + 16 * k.val)) % 2 = 0) : y ∈ (evenRows i k h1 ⟨s, hs⟩).set :=
    rows_hit y _ _ s P hrow hlo hhi _ _ _ (by rw [hu]; exact k0_off3_eq i k ⟨s, hs⟩)
  obtain hu | hu := Nat.mod_two_eq_zero_or_one (P - (160 * (i 0).val + 16 * k.val))
  · have hy := heven hu
    unfold tripPieces
    interval_cases s
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), hy⟩
    · exact ⟨_, List.mem_cons_of_mem _ (List.mem_cons_of_mem _ (List.mem_cons_of_mem _ (List.mem_cons_of_mem _ (List.mem_cons_of_mem _ (List.mem_cons_self))))), hy⟩
    · exact ⟨_, List.mem_cons_of_mem _ (List.mem_cons_of_mem _ (List.mem_cons_of_mem _ (List.mem_cons_self))), hy⟩
    · exact ⟨_, List.mem_cons_of_mem _ (List.mem_cons_self), hy⟩
  · have hy := hodd hu
    unfold tripPieces
    interval_cases s
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), hy⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), hy⟩
    · exact ⟨_, List.mem_cons_of_mem _ (List.mem_cons_of_mem _ (List.mem_cons_of_mem _ (List.mem_cons_of_mem _ (List.mem_cons_of_mem _ (List.mem_cons_of_mem _ (List.mem_cons_self)))))), hy⟩
    · exact ⟨_, List.mem_cons_of_mem _ (List.mem_cons_of_mem _ (List.mem_cons_of_mem _ (List.mem_cons_of_mem _ (List.mem_cons_self)))), hy⟩
    · exact ⟨_, List.mem_cons_of_mem _ (List.mem_cons_of_mem _ (List.mem_cons_self)), hy⟩
    · exact ⟨_, List.mem_cons_self, hy⟩

/-- One trip's stores keep the codes held and add sixteen pairs. -/
theorem trip_table (C : Nat → Nat → BitVec 8) (i : grid0.Coords) (k : Fin k0_t1_loop.trips) (h1 : k0_cond1 i = 1#1) (arg2 : Memref sig .tc .vmem S320x2048 .i8)
    (f2 : arg2.view.ty.Contents (Elt F)) (hb : BlockIs C (i 0).val (arg2.view.read (Elt F) f2)) (arg5 : Memref sig .tc .vmem S64008x128 .i32)
    (f5 : arg5.view.ty.Contents (Elt F)) (h5 : ∀ y, CodesAt C (160 * (i 0).val + 16 * k.val) y (arg5.view.read (Elt F) f5 y)) (y : S64008x128.Idx) :
    CodesAt C (160 * (i 0).val + 16 * k.val + 16) y (arg5.view.read (Elt F) (arg5.view.writes (Elt F) f5 (tripPieces i k h1 arg2 f2)) y) := by
  refine read_writes_fact arg5.view f5 (CodesAt C (160 * (i 0).val + 16 * k.val + 16)) y _ (trip_ok C i k h1 arg2 f2 hb) ?_
  by_cases hc : ∃ s P, s < 8 ∧ P < 8000 ∧ (y 0).val = 8001 * s + P ∧ 160 * (i 0).val + 16 * k.val ≤ P ∧ P < 160 * (i 0).val + 16 * k.val + 16
  · obtain ⟨s, P, hs, -, hrow, hlo, hhi⟩ := hc
    exact Or.inl (trip_covers i k h1 arg2 f2 y s P hs hrow hlo hhi)
  · refine Or.inr fun s P h c e hs hP hPn hh hcc he hrow => ?_
    refine h5 y s P h c e hs hP ?_ hh hcc he hrow
    by_contra hlt
    exact hc ⟨s, P, hs, hP, hrow, by omega, hPn⟩

set_option warn.classDefReducibility false in
/-- The codes' loop: after `n` trips the table holds the codes of `16 n` more pairs. -/
@[sl_loop] noncomputable def loopInv_k0_t1 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (arg0 : BitVec 32) (k0_h1 : k0_cond1 i = 1#1)
    (C : Nat → Nat → BitVec 8) (f2 : Buf (Elt F) (arg2.view.loc (c : Thread nD τ))) :
    LoopInvTy_k0_t1 (F := F) Unit ℕ (UU nD τ) ℕ 𝒱₀ c none Set.univ i arg1 harg1 arg2 harg2 arg3 harg3 arg4 harg4 arg5 harg5 arg6 harg6 arg0 k0_h1 where
  inv := fun n _ => iprop(⌜BlockIs C (i 0).val (arg2.view.read (Elt F) f2)⌝ ∗ held c arg2 (tag C f2)
    ∗ ∃ f, held c arg5 f ∗ ⌜∀ y, CodesAt C (160 * (i 0).val + 16 * n) y (arg5.view.read (Elt F) f y)⌝)
  step := fun k acc => by
    unfold k0_t1_body
    iintro ⟨%hb, H2, ⟨%f5, H5, %h5⟩⟩
    sl_exec
    sl_step
    isplitr; · ipureintro; exact hb
    isplitl [H2]; · iexact H2
    iexists _
    isplitl [H5]; · iexact H5
    ipureintro
    intro y
    exact trip_table C i k k0_h1 arg2 f2 hb arg5 f5 h5 y

end Cert.Proof.Value

end
-- ==== Proof.Value.Split.lean ====
/- What one trip of the second filling loop computes: sixteen rows of split scales, word by word. -/
module

public import proofs.«01_k».proof.Proof.Value.TableLoop
public import Idealize.ShloMosaic.Lib.BitcastPair

@[expose] public section

set_option maxRecDepth 65536
set_option maxHeartbeats 400000

noncomputable section

namespace Cert.Proof.Value

open Cert.KernelIdeal Cert.KernelIdeal.Gen
open Cert.Proof.KernelIdeal (UU 𝒱₀ held)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The integers `n` times two to the `k`, as the bits of floats. -/
def scaledOf (n k : IVec S8x128 32) : IVec S8x128 32 :=
  select (cmpi .eq n (broadcast S8x128 0#32)) (broadcast S8x128 0#32)
    (addi (shrui (shli n (andi (ctlz n) (broadcast S8x128 31#32))) (broadcast S8x128 8#32))
      (shli (addi (subi (broadcast S8x128 157#32) (ctlz n)) k) (broadcast S8x128 23#32)))
/-- The magnitudes' bits as 32-bit floats. -/
def wideOf (m : IVec S8x128 32) : IVec S8x128 32 :=
  select (cmpi .slt m (broadcast S8x128 260046848#32))
    (select (cmpi .slt m (broadcast S8x128 8388608#32)) (scaledOf m (broadcast S8x128 4294967259#32)) (addi m (broadcast S8x128 939524096#32)))
    (ori m (broadcast S8x128 2139095040#32))
/-- The rounded parts' bits. -/
def roundOf (b : IVec S8x128 32) : IVec S8x128 32 :=
  andi (addi b (broadcast S8x128 262144#32)) (broadcast S8x128 4294443008#32)
/-- The bits of the difference, from the magnitudes' bits and the difference of the bits. -/
def diffOf (b d : IVec S8x128 32) : IVec S8x128 32 :=
  ori (scaledOf (absi d) (subi (shrui b (broadcast S8x128 23#32)) (broadcast S8x128 150#32))) (andi d (broadcast S8x128 2147483648#32))
/-- The rests' bits. -/
def restOf (b : IVec S8x128 32) : IVec S8x128 32 :=
  select (cmpi .slt b (broadcast S8x128 2139095040#32)) (diffOf b (subi b (roundOf b))) (broadcast S8x128 2143289344#32)
/-- Rounded part and rest joined in words, with their signs. -/
def joinOf (h l g : IVec S8x128 32) : IVec S8x128 32 :=
  ori (shrui (ori h g) (broadcast S8x128 16#32)) (andi (xori l g) (broadcast S8x128 4294901760#32))
/-- The words of the split scales, from the shifted magnitudes `m` and the signs `g`. -/
def splitOf (m g : IVec S8x128 32) : IVec S8x128 32 := joinOf (roundOf (wideOf m)) (restOf (wideOf m)) g

/-- `scaledOf` of one word; likewise below. -/
def scaledWord (n k : BitVec 32) : BitVec 32 :=
  if n = 0#32 then 0#32 else
    ((n <<< (IntOp.ctlz n &&& 31#32).toNat) >>> 8) + ((157#32 - IntOp.ctlz n + k) <<< 23)
@[inherit_doc scaledWord]
def wideWord (m : BitVec 32) : BitVec 32 :=
  if m.slt 260046848#32 then (if m.slt 8388608#32 then scaledWord m 4294967259#32 else m + 939524096#32) else m ||| 2139095040#32
@[inherit_doc scaledWord]
def roundWord (b : BitVec 32) : BitVec 32 := (b + 262144#32) &&& 4294443008#32
@[inherit_doc scaledWord]
def diffWord (b d : BitVec 32) : BitVec 32 := scaledWord (IntOp.absi d) ((b >>> 23) - 150#32) ||| (d &&& 2147483648#32)
@[inherit_doc scaledWord]
def restWord (b : BitVec 32) : BitVec 32 := if b.slt 2139095040#32 then diffWord b (b - roundWord b) else 2143289344#32
@[inherit_doc scaledWord]
def joinWord (h l g : BitVec 32) : BitVec 32 := ((h ||| g) >>> 16) ||| ((l ^^^ g) &&& 4294901760#32)
@[inherit_doc scaledWord]
def splitWord (m g : BitVec 32) : BitVec 32 := joinWord (roundWord (wideWord m)) (restWord (wideWord m)) g

theorem select_ite {p : Bool} (x y : BitVec 32) : Scalar.select (BitVec.ofBool p) x y = if p then x else y := by cases p <;> rfl
theorem select_apply' {s : Shape} (b : IVec s 1) (x y : IVec s 32) (j : s.Idx) : select b x y j = Scalar.select (b j) (x j) (y j) := rfl

theorem shli_and31 (x a : BitVec 32) : IntOp.shli .vector x (a &&& 31#32) = x <<< (a &&& 31#32).toNat := by
  have h : (a &&& 31#32).toNat < 32 := by
    have : (a &&& 31#32).toNat ≤ 31 := by rw [BitVec.toNat_and]; exact Nat.and_le_right
    omega
  exact if_pos h

theorem scaledOf_apply (n k : IVec S8x128 32) (j : S8x128.Idx) : scaledOf n k j = scaledWord (n j) (k j) := by
  unfold scaledOf scaledWord
  rw [select_apply']
  show Scalar.select (BitVec.ofBool (n j == 0#32)) 0#32 (IntOp.shrui .vector (IntOp.shli .vector (n j) (IntOp.ctlz (n j) &&& 31#32)) 8#32
    + IntOp.shli .vector (157#32 - IntOp.ctlz (n j) + k j) 23#32) = _
  rw [select_ite, shli_and31]
  by_cases h : n j = 0#32
  · simp [h]
  · rw [if_neg h, if_neg (by simpa using h)]; rfl
theorem wideOf_apply (m : IVec S8x128 32) (j : S8x128.Idx) : wideOf m j = wideWord (m j) := by
  unfold wideOf wideWord
  rw [select_apply', select_apply', scaledOf_apply]
  show Scalar.select (BitVec.ofBool ((m j).slt 260046848#32)) (Scalar.select (BitVec.ofBool ((m j).slt 8388608#32)) _ _) _ = _
  rw [select_ite, select_ite]
  rfl
theorem roundOf_apply (b : IVec S8x128 32) (j : S8x128.Idx) : roundOf b j = roundWord (b j) := rfl
theorem diffOf_apply (b d : IVec S8x128 32) (j : S8x128.Idx) : diffOf b d j = diffWord (b j) (d j) := by
  unfold diffOf diffWord
  show scaledOf _ _ j ||| _ = _
  rw [scaledOf_apply]
  rfl
theorem restOf_apply (b : IVec S8x128 32) (j : S8x128.Idx) : restOf b j = restWord (b j) := by
  unfold restOf restWord
  rw [select_apply', diffOf_apply]
  exact select_ite _ _
theorem joinOf_apply (h l g : IVec S8x128 32) (j : S8x128.Idx) : joinOf h l g j = joinWord (h j) (l j) (g j) := rfl
theorem splitOf_apply (m g : IVec S8x128 32) (j : S8x128.Idx) : splitOf m g j = splitWord (m j) (g j) := by
  unfold splitOf splitWord
  rw [joinOf_apply, roundOf_apply, restOf_apply, wideOf_apply]

/-- A half-precision pattern's two parts in one word: the low half is the rounded part's pattern, the high half the rest's. -/
def splitHalf (w : BitVec 16) : BitVec 32 :=
  splitWord ((w.setWidth 32 <<< 13) &&& 268427264#32) ((w.setWidth 32 <<< 16) &&& 2147483648#32)

theorem getElem_low (a b : BitVec 16) (i : Nat) (h : i < 16) : (a ++ b : BitVec 32)[i] = b[i] := by
  rw [← BitVec.getLsbD_eq_getElem, ← BitVec.getLsbD_eq_getElem, BitVec.getLsbD_append, if_pos h]
theorem getElem_high (a b : BitVec 16) (i : Nat) (h : ¬i < 16) (h' : i < 32) : (a ++ b : BitVec 32)[i] = a.getLsbD (i - 16) := by
  rw [← BitVec.getLsbD_eq_getElem, BitVec.getLsbD_append, if_neg h]

theorem low_m (a b : BitVec 16) : ((a ++ b : BitVec 32) <<< 13) &&& 268427264#32 = (b.setWidth 32 <<< 13) &&& 268427264#32 := by
  apply BitVec.eq_of_getLsbD_eq
  intro i hi
  interval_cases i <;> simp [BitVec.getLsbD_and, BitVec.getLsbD_shiftLeft, BitVec.getLsbD_ushiftRight, BitVec.getLsbD_append, BitVec.getLsbD_setWidth, getElem_low, getElem_high]
theorem low_g (a b : BitVec 16) : ((a ++ b : BitVec 32) <<< 16) &&& 2147483648#32 = (b.setWidth 32 <<< 16) &&& 2147483648#32 := by
  apply BitVec.eq_of_getLsbD_eq
  intro i hi
  interval_cases i <;> simp [BitVec.getLsbD_and, BitVec.getLsbD_shiftLeft, BitVec.getLsbD_ushiftRight, BitVec.getLsbD_append, BitVec.getLsbD_setWidth, getElem_low, getElem_high]
theorem high_m (a b : BitVec 16) : ((a ++ b : BitVec 32) >>> 3) &&& 268427264#32 = (a.setWidth 32 <<< 13) &&& 268427264#32 := by
  apply BitVec.eq_of_getLsbD_eq
  intro i hi
  interval_cases i <;> simp [BitVec.getLsbD_and, BitVec.getLsbD_shiftLeft, BitVec.getLsbD_ushiftRight, BitVec.getLsbD_append, BitVec.getLsbD_setWidth, getElem_low, getElem_high]
theorem high_g (a b : BitVec 16) : (a ++ b : BitVec 32) &&& 2147483648#32 = (a.setWidth 32 <<< 16) &&& 2147483648#32 := by
  apply BitVec.eq_of_getLsbD_eq
  intro i hi
  interval_cases i <;> simp [BitVec.getLsbD_and, BitVec.getLsbD_shiftLeft, BitVec.getLsbD_ushiftRight, BitVec.getLsbD_append, BitVec.getLsbD_setWidth, getElem_low, getElem_high]

/-- The words of the even rows of a loaded block of scales, and of the odd rows. -/
abbrev evenSplit (x : Vec F S16x128 .i16) : IVec S8x128 32 :=
  splitOf (andi (shli (bitcast S8x128 32 x bitcasts_S16x128_w16_S8x128_w32) (broadcast S8x128 13#32)) (broadcast S8x128 268427264#32))
    (andi (shli (bitcast S8x128 32 x bitcasts_S16x128_w16_S8x128_w32) (broadcast S8x128 16#32)) (broadcast S8x128 2147483648#32))
@[inherit_doc evenSplit]
abbrev oddSplit (x : Vec F S16x128 .i16) : IVec S8x128 32 :=
  splitOf (andi (shrui (bitcast S8x128 32 x bitcasts_S16x128_w16_S8x128_w32) (broadcast S8x128 3#32)) (broadcast S8x128 268427264#32))
    (andi (bitcast S8x128 32 x bitcasts_S16x128_w16_S8x128_w32) (broadcast S8x128 2147483648#32))

theorem pair_word (x : Vec F S16x128 .i16) (r : Fin 8) (L : Fin 128) :
    bitcast S8x128 32 x bitcasts_S16x128_w16_S8x128_w32 (ix2 r L) = x (ix2 ⟨2 * r.val + 1, by omega⟩ L) ++ x (ix2 ⟨2 * r.val, by omega⟩ L) := by
  rw [bitcast_16_32]
  congr 2 <;>
  · funext a
    match a with
    | ⟨0, _⟩ => rfl
    | ⟨1, _⟩ => rfl

theorem evenSplit_apply (x : Vec F S16x128 .i16) (r : Fin 8) (L : Fin 128) :
    evenSplit x (ix2 r L) = splitHalf (x (ix2 ⟨2 * r.val, by omega⟩ L)) := by
  unfold evenSplit splitHalf
  rw [splitOf_apply, ← low_m (x (ix2 ⟨2 * r.val + 1, by omega⟩ L)), ← low_g (x (ix2 ⟨2 * r.val + 1, by omega⟩ L)), ← pair_word]
  rfl
theorem oddSplit_apply (x : Vec F S16x128 .i16) (r : Fin 8) (L : Fin 128) :
    oddSplit x (ix2 r L) = splitHalf (x (ix2 ⟨2 * r.val + 1, by omega⟩ L)) := by
  unfold oddSplit splitHalf
  rw [splitOf_apply, ← high_m _ (x (ix2 ⟨2 * r.val, by omega⟩ L)), ← high_g _ (x (ix2 ⟨2 * r.val, by omega⟩ L)), ← pair_word]
  rfl

/-- The split table's word at an index is its scale's, for the tokens below `n`. -/
def ScaleAt (S : Nat → Nat → BitVec 16) (n : Nat) (y : S16000x128.Idx) (w : BitVec 32) : Prop :=
  (y 0).val < n → w = splitHalf (S (y 0).val (y 1).val)

/-- The scales' buffer holds the 320 rows of block `i`. -/
def ScalesAre (S : Nat → Nat → BitVec 16) (i : Nat) (x : S320x128.Idx → BitVec 16) : Prop :=
  ∀ (a : Fin 320) (b : Fin 128), x (ix2 a b) = S (320 * i + a.val) b.val

/-- The block of scales that trip `k` loads. -/
abbrev scalesAt (i : grid0.Coords) (k : Fin k0_t2_loop.trips) (h1 : k0_cond1 i = 1#1) (arg3 : Memref sig .tc .vmem S320x128 .i16)
    (f3 : arg3.view.ty.Contents (Elt F)) : Vec F S16x128 .i16 :=
  View.readAt (Elt F) arg3.view (Rect.unit (s := S320x128) (k0_off19 k) S16x128.size (k0_off19_inb i k h1)).toLoadRect f3

theorem scales_loaded {sp : Space} (v : View sig .tc sp S320x128 .i16) (f : v.ty.Contents (Elt F)) (S : Nat → Nat → BitVec 16) (i t : Nat)
    (hf : ScalesAre S i (v.read (Elt F) f)) (off : Fin 2 → Nat) (inb) (ho : off = ![16 * t, 0]) (a : Fin 16) (b : Fin 128) :
    View.readAt (Elt F) v (Rect.unit (s := S320x128) off S16x128.size inb).toLoadRect f (ix2 a b) = S (320 * i + (16 * t + a.val)) b.val := by
  subst ho
  have h0 := inb 0
  change 16 * t + 16 ≤ 320 at h0
  have := hf ⟨16 * t + a.val, by omega⟩ b
  rw [← this, View.readAt_apply]
  congr 1
  funext d
  match d with
  | ⟨0, _⟩ => exact Fin.ext (by show 16 * t + 1 * a.val = _; simp)
  | ⟨1, _⟩ => exact Fin.ext (by show 0 + 1 * b.val = _; simp)

abbrev splitRows (i : grid0.Coords) (k : Fin k0_t2_loop.trips) (h1 : k0_cond1 i = 1#1) (u : Fin 2) : Rect S16000x128 :=
  ⟨⟨k0_off20 i k (BitVec.ofNat 32 u.val), S8x128.size, ![2, 1], k0_off20_inb i k h1 u⟩, spos_2_1⟩

/-- One trip's stores, the last first. -/
def splitPieces (i : grid0.Coords) (k : Fin k0_t2_loop.trips) (h1 : k0_cond1 i = 1#1) (arg3 : Memref sig .tc .vmem S320x128 .i16)
    (f3 : arg3.view.ty.Contents (Elt F)) : List (View.Piece (Elt F) S16000x128 .i32) :=
  [⟨splitRows i k h1 1, shapeCast S8x128 (oddSplit (scalesAt i k h1 arg3 f3)) shapeCasts_S8x128_S8x128⟩,
   ⟨splitRows i k h1 0, shapeCast S8x128 (evenSplit (scalesAt i k h1 arg3 f3)) shapeCasts_S8x128_S8x128⟩]

theorem split_piece_ok (S : Nat → Nat → BitVec 16) (n i t u : Nat) (hu : u < 2) (x : Vec F S16x128 .i16)
    (hx : ∀ a b, x (ix2 a b) = S (320 * i + (16 * t + a.val)) b.val)
    (w : IVec S8x128 32) (hw : w = if u = 0 then evenSplit x else oddSplit x)
    (off : Fin 2 → Nat) (inb pos) (ho : off = ![320 * i + 16 * t + u, 0]) (z : S8x128.Idx) :
    ScaleAt S n ((Rect.mk (s := S16000x128) ⟨off, S8x128.size, ![2, 1], inb⟩ pos).emb z) (w z) := by
  subst ho
  obtain ⟨r, L, rfl⟩ : ∃ r L, z = ix2 r L := ⟨_, _, eq_ix2 z⟩
  intro _
  have e0 : ((Rect.mk (s := S16000x128) ⟨![320 * i + 16 * t + u, 0], S8x128.size, ![2, 1], inb⟩ pos).emb (ix2 r L) 0).val = 320 * i + 16 * t + u + 2 * r.val := rfl
  have e1 : ((Rect.mk (s := S16000x128) ⟨![320 * i + 16 * t + u, 0], S8x128.size, ![2, 1], inb⟩ pos).emb (ix2 r L) 1).val = L.val := by
    show 0 + 1 * L.val = _; omega
  rw [e0, e1, hw]
  obtain rfl | rfl : u = 0 ∨ u = 1 := by omega
  · rw [if_pos rfl, evenSplit_apply, hx]; dsimp only; congr 2; omega
  · rw [if_neg (by decide), oddSplit_apply, hx]; dsimp only; congr 2; omega

theorem split_rows_hit (y : S16000x128.Idx) (i t : Nat) (hlo : 320 * i + 16 * t ≤ (y 0).val) (hhi : (y 0).val < 320 * i + 16 * t + 16)
    (off : Fin 2 → Nat) (inb pos) (ho : off = ![320 * i + 16 * t + ((y 0).val - (320 * i + 16 * t)) % 2, 0]) :
    y ∈ (Rect.mk (s := S16000x128) ⟨off, S8x128.size, ![2, 1], inb⟩ pos).set := by
  subst ho
  refine (LoadRect.mem_set _).mpr fun a => ?_
  match a with
  | ⟨0, _⟩ =>
    refine ⟨((y 0).val - (320 * i + 16 * t)) / 2, by show _ < 8; omega, ?_⟩
    show (y 0).val = 320 * i + 16 * t + ((y 0).val - (320 * i + 16 * t)) % 2 + 2 * (((y 0).val - (320 * i + 16 * t)) / 2)
    omega
  | ⟨1, _⟩ =>
    refine ⟨(y 1).val, (y 1).isLt, ?_⟩
    show (y 1).val = 0 + 1 * (y 1).val
    omega

/-- One trip's stores keep the scales held and add sixteen tokens. -/
theorem split_trip (S : Nat → Nat → BitVec 16) (i : grid0.Coords) (k : Fin k0_t2_loop.trips) (h1 : k0_cond1 i = 1#1) (arg3 : Memref sig .tc .vmem S320x128 .i16)
    (f3 : arg3.view.ty.Contents (Elt F)) (hb : ScalesAre S (i 0).val (arg3.view.read (Elt F) f3)) (arg6 : Memref sig .tc .vmem S16000x128 .i32)
    (f6 : arg6.view.ty.Contents (Elt F)) (h6 : ∀ y, ScaleAt S (320 * (i 0).val + 16 * k.val) y (arg6.view.read (Elt F) f6 y)) (y : S16000x128.Idx) :
    ScaleAt S (320 * (i 0).val + 16 * k.val + 16) y (arg6.view.read (Elt F) (arg6.view.writes (Elt F) f6 (splitPieces i k h1 arg3 f3)) y) := by
  have hx := fun a b => scales_loaded arg3.view f3 S _ k.val hb _ (k0_off19_inb i k h1) (k0_off19_eq k) a b
  refine read_writes_fact arg6.view f6 (ScaleAt S (320 * (i 0).val + 16 * k.val + 16)) y _ ?_ ?_
  · intro p hp
    simp only [splitPieces, List.mem_cons, List.mem_nil_iff, or_false] at hp
    rcases hp with rfl | rfl
    · exact fun z => split_piece_ok S _ _ k.val 1 (by decide) _ hx _ (shapeCast_id _ _) _ _ _ (k0_off20_eq i k 1) z
    · exact fun z => split_piece_ok S _ _ k.val 0 (by decide) _ hx _ (shapeCast_id _ _) _ _ _ (k0_off20_eq i k 0) z
  · by_cases hc : 320 * (i 0).val + 16 * k.val ≤ (y 0).val ∧ (y 0).val < 320 * (i 0).val + 16 * k.val + 16
    · refine Or.inl ?_
      unfold splitPieces
      obtain hu | hu := Nat.mod_two_eq_zero_or_one ((y 0).val - (320 * (i 0).val + 16 * k.val))
      · exact ⟨_, List.mem_cons_of_mem _ List.mem_cons_self, split_rows_hit y _ _ hc.1 hc.2 _ _ _ (by rw [hu]; exact k0_off20_eq i k 0)⟩
      · exact ⟨_, List.mem_cons_self, split_rows_hit y _ _ hc.1 hc.2 _ _ _ (by rw [hu]; exact k0_off20_eq i k 1)⟩
    · refine Or.inr fun hn => h6 y ?_
      by_contra hlt
      exact hc ⟨by omega, hn⟩

local notation "𝕄" => MT nD τ sig Unit (Elt F) ℕ (UU nD τ) ℕ

set_option warn.classDefReducibility false in
/-- The scales' loop: after `n` trips the split table holds the scales of `16 n` more tokens. -/
@[sl_loop] noncomputable def loopInv_k0_t2 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (arg0 : BitVec 32) (k0_h1 : k0_cond1 i = 1#1)
    (S : Nat → Nat → BitVec 16) (f3 : Buf (Elt F) (arg3.view.loc (c : Thread nD τ))) :
    LoopInvTy_k0_t2 (F := F) Unit ℕ (UU nD τ) ℕ 𝒱₀ c none Set.univ i arg1 harg1 arg2 harg2 arg3 harg3 arg4 harg4 arg5 harg5 arg6 harg6 arg0 k0_h1 where
  inv := fun n _ => iprop(⌜ScalesAre S (i 0).val (arg3.view.read (Elt F) f3)⌝ ∗ held c arg3 (tag S f3)
    ∗ ∃ f, held c arg6 f ∗ ⌜∀ y, ScaleAt S (320 * (i 0).val + 16 * n) y (arg6.view.read (Elt F) f y)⌝)
  step := fun k acc => by
    unfold k0_t2_body
    iintro ⟨%hb, H3, ⟨%f6, H6, %h6⟩⟩
    sl_exec
    sl_step
    isplitr; · ipureintro; exact hb
    isplitl [H3]; · iexact H3
    iexists _
    isplitl [H6]; · iexact H6
    ipureintro
    intro y
    exact split_trip S i k k0_h1 arg3 f3 hb arg6 f6 h6 y

end Cert.Proof.Value

end
-- ==== Proof.Value.Lookup.lean ====
/- What one trip of the lookup computes: two tokens' 4096 values, from their table words and their split scales. -/
module

public import proofs.«01_k».proof.Proof.Value.Split

@[expose] public section

set_option maxRecDepth 65536
set_option maxHeartbeats 400000

noncomputable section

namespace Cert.Proof.Value

open Cert.KernelIdeal Cert.KernelIdeal.Gen
open Idealize.ShloMosaic hiding ix1 ix2 ix3 ix4 eq_ix1 eq_ix2 eq_ix3
open Idealize.ShloMosaic.ValueIdx

variable {F : FTy → Type} [FloatOps F]

theorem pack_half (u v : BitVec 32) (e : Nat) (he : e < 2) :
    ((0#32 ||| ((u.setWidth 16).setWidth 32 <<< (0 * 16))) ||| ((v.setWidth 16).setWidth 32 <<< (1 * 16))).extractLsb' (16 * e) 16
      = (if e = 0 then u else v).extractLsb' 0 16 := by
  apply BitVec.eq_of_getLsbD_eq
  intro i hi
  rw [BitVec.getLsbD_extractLsb', BitVec.getLsbD_extractLsb', pack_bit u v e i he hi, Nat.zero_add]

theorem nibble_wide (b : BitVec 8) (e : Nat) (he : e < 2) :
    (if e = 0 then IntOp.shrsi .vector (IntOp.shli .vector (b.signExtend 32) 28#32) 28#32 else IntOp.shrsi .vector (b.signExtend 32) 4#32).extractLsb' 0 16
      = (b.extractLsb' (4 * e) 4).signExtend 16 := by
  have h : ∀ n : Fin 256, ∀ e : Fin 2, (if e.val = 0 then IntOp.shrsi .vector (IntOp.shli .vector ((BitVec.ofFin (w := 8) n).signExtend 32) 28#32) 28#32
      else IntOp.shrsi .vector ((BitVec.ofFin (w := 8) n).signExtend 32) 4#32).extractLsb' 0 16
      = ((BitVec.ofFin (w := 8) n).extractLsb' (4 * e.val) 4).signExtend 16 := by decide +kernel
  exact h b.toFin ⟨e, he⟩

theorem mixed_bit (A B : BitVec 32) (pa pb b e i : Nat) (ha : pa < 2) (hb : pb < 2) (hc : b < 4) (he : e < 2) (hi : i < 4) :
    (((A >>> BitVec.ofNat 32 (4 * pa)) &&& 252645135#32) ||| (((B >>> BitVec.ofNat 32 (4 * pb)) &&& 252645135#32) <<< 4)).getLsbD (8 * b + 4 * e + i)
      = (if e = 0 then A else B).getLsbD (8 * b + 4 * (if e = 0 then pa else pb) + i) := by
  interval_cases pa <;> interval_cases pb <;> interval_cases b <;> interval_cases e <;> interval_cases i <;>
    simp [BitVec.getLsbD_or, BitVec.getLsbD_and, BitVec.getLsbD_shiftLeft, BitVec.getLsbD_ushiftRight]

theorem amount (w : BitVec 32) : Scalar.muli (Scalar.andi w 1#32) 4#32 = BitVec.ofNat 32 (4 * (w.toNat % 2)) := by
  apply BitVec.eq_of_toNat_eq
  show ((w &&& 1#32) * 4#32).toNat = _
  rw [BitVec.toNat_mul, BitVec.toNat_and, BitVec.toNat_ofNat, show 1 % 2 ^ 32 = 1 from rfl, Nat.and_one_is_mod]
  show w.toNat % 2 * 4 % 2 ^ 32 = _
  rw [Nat.mul_comm, BitVec.toNat_ofNat]

/-- The word of the two tokens' mixed nibbles. -/
theorem mixed_word (wa wb : BitVec 32) (x y : IVec S8x128 32) (j : S8x128.Idx) :
    (ori (andi (shrui x (broadcast S8x128 (Scalar.muli (Scalar.andi wa 1#32) 4#32))) (broadcast S8x128 252645135#32))
      (shli (andi (shrui y (broadcast S8x128 (Scalar.muli (Scalar.andi wb 1#32) 4#32))) (broadcast S8x128 252645135#32)) (broadcast S8x128 4#32))) j
      = ((x j >>> BitVec.ofNat 32 (4 * (wa.toNat % 2))) &&& 252645135#32) ||| (((y j >>> BitVec.ofNat 32 (4 * (wb.toNat % 2))) &&& 252645135#32) <<< 4) := by
  rw [amount, amount]
  have h1 := shrui_apply' x (broadcast S8x128 (BitVec.ofNat 32 (4 * (wa.toNat % 2)))) j (by
    show (BitVec.ofNat 32 (4 * (wa.toNat % 2))).toNat < 32; rw [BitVec.toNat_ofNat]; omega)
  have h2 := shrui_apply' y (broadcast S8x128 (BitVec.ofNat 32 (4 * (wb.toNat % 2)))) j (by
    show (BitVec.ofNat 32 (4 * (wb.toNat % 2))).toNat < 32; rw [BitVec.toNat_ofNat]; omega)
  show (shrui x (broadcast S8x128 (BitVec.ofNat 32 (4 * (wa.toNat % 2)))) j &&& 252645135#32)
    ||| ((shrui y (broadcast S8x128 (BitVec.ofNat 32 (4 * (wb.toNat % 2)))) j &&& 252645135#32) <<< 4) = _
  rw [h1, h2]
  rfl

/-- The nibble in byte row `4 r + b` of the mixed words. -/
theorem mixed_nib (wa wb : BitVec 32) (x y : IVec S8x128 32) (c : Fin 32) (L : Fin 128) (e : Nat) (he : e < 2) :
    ((bitcast S32x128 8 (ori (andi (shrui x (broadcast S8x128 (Scalar.muli (Scalar.andi wa 1#32) 4#32))) (broadcast S8x128 252645135#32))
      (shli (andi (shrui y (broadcast S8x128 (Scalar.muli (Scalar.andi wb 1#32) 4#32))) (broadcast S8x128 252645135#32)) (broadcast S8x128 4#32)))
        bitcasts_S8x128_w32_S32x128_w8) (ix2 c L)).extractLsb' (4 * e) 4
      = ((if e = 0 then x else y) (ix2 ⟨c.val / 4, by omega⟩ L)).extractLsb' (8 * (c.val % 4) + 4 * ((if e = 0 then wa else wb).toNat % 2)) 4 := by
  apply BitVec.eq_of_getLsbD_eq
  intro i hi
  rw [BitVec.getLsbD_extractLsb', BitVec.getLsbD_extractLsb', decide_eq_true hi, Bool.true_and, Bool.true_and,
    bitcast_getLsbD _ _ _ _ (by omega) (by decide)]
  have hr : S32x128.row (ix2 c L) = c.val := rfl
  have e1 : (S32x128.row (ix2 c L) * 8 + (4 * e + i)) / 32 = c.val / 4 := by rw [hr]; omega
  have e2 : (S32x128.row (ix2 c L) * 8 + (4 * e + i)) % 32 = 8 * (c.val % 4) + 4 * e + i := by rw [hr]; omega
  have e3 : ∀ q hq, q = c.val / 4 → bitcasts_S8x128_w32_S32x128_w8.srcIdx (ix2 c L) q hq = ix2 ⟨c.val / 4, by omega⟩ L := by
    rintro q hq rfl
    funext a
    match a with
    | ⟨0, _⟩ => rfl
    | ⟨1, _⟩ => rfl
  rw [e3 _ _ e1, e2, mixed_word, mixed_bit _ _ _ _ _ e i (by omega) (by omega) (by omega) he hi]
  obtain rfl | rfl : e = 0 ∨ e = 1 := by omega
  · rfl
  · rfl

/-- Two tokens' quantized values as 16-bit integers: row `2 c + e` is column tile `c` of token `e`. -/
abbrev q16 (wa wb : Elt F .i32) (x y : Vec F S8x128 .i32) : IVec S64x128 16 :=
  bitcast S64x128 16 (packElementwiseI16 (k0_pay103 wa wb x y) (k0_pay104 wa wb x y)) bitcasts_S32x128_w32_S64x128_w16

theorem row_half (w : IVec S32x128 32) (ρ : Fin 64) (L : Fin 128) :
    bitcast S64x128 16 w bitcasts_S32x128_w32_S64x128_w16 (ix2 ρ L) = (w (ix2 ⟨ρ.val / 2, by omega⟩ L)).extractLsb' (16 * (ρ.val % 2)) 16 := by
  rw [bitcast_32_16]
  congr 2
  funext a
  match a with
  | ⟨0, _⟩ => rfl
  | ⟨1, _⟩ => rfl

theorem q16_apply (wa wb : Elt F .i32) (x y : Vec F S8x128 .i32) (ρ : Fin 64) (L : Fin 128) :
    q16 wa wb x y (ix2 ρ L)
      = (((if ρ.val % 2 = 0 then x else y) (ix2 ⟨ρ.val / 2 / 4, by omega⟩ L)).extractLsb'
          (8 * (ρ.val / 2 % 4) + 4 * ((if ρ.val % 2 = 0 then wa else wb : BitVec 32).toNat % 2)) 4).signExtend 16 := by
  have he : ρ.val % 2 < 2 := by omega
  unfold q16
  rw [row_half]
  refine (pack_half _ _ _ he).trans ?_
  rw [← mixed_nib wa wb x y ⟨ρ.val / 2, by omega⟩ L _ he, ← nibble_wide _ _ he]
  congr 1

/-- Rows `off …` of the quantized values times both parts of their scales, summed, as pairs of rows. -/
abbrev pieceAt (off : Nat) (hs : S64x128.Slices ![off, 0] S16x128) (q : FVec F S64x128 .bf16) (hi lo : IVec S8x128 32) (idx : IVec S8x128 32) : Vec F S8x2x128 .bf16 :=
  k0_pay6 (bitcastToFloat .bf16 (bitcast S16x128 16 (dynamicGather 1 hi idx) bitcasts_S8x128_w32_S16x128_w16))
    (bitcastToFloat .bf16 (bitcast S16x128 16 (dynamicGather 1 lo idx) bitcasts_S8x128_w32_S16x128_w16))
    (extractStridedSlice S16x128 ![off, 0] q hs)

theorem interleave_even (lo hi : Vec F S8x1x128 .bf16) (a : Fin 8) (L : Fin 128) :
    interleaveRows S8x2x128 lo hi bitcasts_S8x2x128_w16_S8x1x128_w32 (ix3 a 0 L) = lo (ix3 a 0 L) := by
  unfold interleaveRows
  have hr : S8x2x128.row (ix3 a 0 L) = 0 := rfl
  simp only [hr]
  rw [if_pos (by decide)]
  congr 1
  funext b
  match b with
  | ⟨0, _⟩ => rfl
  | ⟨1, _⟩ => exact Subsingleton.elim (α := Fin 1) _ _
  | ⟨2, _⟩ => rfl
theorem interleave_odd (lo hi : Vec F S8x1x128 .bf16) (a : Fin 8) (L : Fin 128) :
    interleaveRows S8x2x128 lo hi bitcasts_S8x2x128_w16_S8x1x128_w32 (ix3 a 1 L) = hi (ix3 a 0 L) := by
  unfold interleaveRows
  have hr : S8x2x128.row (ix3 a 1 L) = 1 := rfl
  simp only [hr]
  rw [if_neg (by decide)]
  congr 1
  funext b
  match b with
  | ⟨0, _⟩ => rfl
  | ⟨1, _⟩ => exact Subsingleton.elim (α := Fin 1) _ _
  | ⟨2, _⟩ => rfl

theorem rows_pairs (v : FVec F S16x128 .bf16) (a : Fin 8) (e : Fin 2) (L : Fin 128) :
    interleaveRows S8x2x128 (shapeCast S8x1x128 (rowsOfParity 0 S8x128 v bitcasts_S16x128_w16_S8x128_w32) shapeCasts_S8x128_S8x1x128)
      (shapeCast S8x1x128 (rowsOfParity 1 S8x128 v bitcasts_S16x128_w16_S8x128_w32) shapeCasts_S8x128_S8x1x128) bitcasts_S8x2x128_w16_S8x1x128_w32 (ix3 a e L)
      = v (ix2 ⟨2 * a.val + e.val, by omega⟩ L) := by
  have key : ∀ w : FVec F S8x128 .bf16, shapeCast S8x1x128 w shapeCasts_S8x128_S8x1x128 (ix3 a 0 L) = w (ix2 a L) := by
    intro w
    refine congrArg w (Shape.reshapeEquiv_eq_of_vals _ _ _ (a.val * 128 + L.val) (a.val * 128 + 0 * 128 + L.val) ?_ ?_ (by omega))
    · exact rowMajor_val2 (d := ![8, 128]) (ix2 a L) 128 rfl
    · exact rowMajor_val3 (d := ![8, 1, 128]) (ix3 a 0 L) 128 128 rfl rfl
  match e with
  | ⟨0, _⟩ =>
    refine Eq.trans ?_ ((key (rowsOfParity 0 S8x128 v bitcasts_S16x128_w16_S8x128_w32)).trans ?_)
    · exact interleave_even _ _ a L
    · unfold rowsOfParity
      congr 1
      funext d
      match d with
      | ⟨0, _⟩ => rfl
      | ⟨1, _⟩ => rfl
  | ⟨1, _⟩ =>
    refine Eq.trans ?_ ((key (rowsOfParity 1 S8x128 v bitcasts_S16x128_w16_S8x128_w32)).trans ?_)
    · exact interleave_odd _ _ a L
    · unfold rowsOfParity
      congr 1
      funext d
      match d with
      | ⟨0, _⟩ => rfl
      | ⟨1, _⟩ => rfl

theorem row_half8 (w : IVec S8x128 32) (ρ : Fin 16) (L : Fin 128) :
    bitcast S16x128 16 w bitcasts_S8x128_w32_S16x128_w16 (ix2 ρ L) = (w (ix2 ⟨ρ.val / 2, by omega⟩ L)).extractLsb' (16 * (ρ.val % 2)) 16 := by
  rw [bitcast_32_16]
  congr 2
  funext a
  match a with
  | ⟨0, _⟩ => rfl
  | ⟨1, _⟩ => rfl

theorem pieceAt_apply (off : Nat) (hs : S64x128.Slices ![off, 0] S16x128) (ho : off + 16 ≤ 64) (q : FVec F S64x128 .bf16) (hi lo : IVec S8x128 32) (idx : IVec S8x128 32)
    (a : Fin 8) (e : Fin 2) (L : Fin 128) (n : Nat) (hn : n < 128) (h : idx (ix2 a L) = BitVec.ofNat 32 n) :
    pieceAt off hs q hi lo idx (ix3 a e L)
      = FloatOps.addf (FloatOps.mulf (q (ix2 ⟨off + (2 * a.val + e.val), by omega⟩ L)) (FloatOps.ofBits .bf16 ((hi (ix2 a ⟨n, hn⟩)).extractLsb' (16 * e.val) 16)))
        (FloatOps.mulf (q (ix2 ⟨off + (2 * a.val + e.val), by omega⟩ L)) (FloatOps.ofBits .bf16 ((lo (ix2 a ⟨n, hn⟩)).extractLsb' (16 * e.val) 16))) := by
  unfold pieceAt k0_pay6
  refine (rows_pairs _ a e L).trans ?_
  have h1 := fun w => row_half8 (dynamicGather (s := S8x128) 1 w idx) ⟨2 * a.val + e.val, by omega⟩ L
  have e1 : (⟨(2 * a.val + e.val) / 2, by omega⟩ : Fin 8) = a := Fin.ext (by dsimp only; omega)
  have e2 : (2 * a.val + e.val) % 2 = e.val := by omega
  simp only [e1, e2] at h1
  have h2 : extractStridedSlice S16x128 ![off, 0] q hs (ix2 ⟨2 * a.val + e.val, by omega⟩ L) = q (ix2 ⟨off + (2 * a.val + e.val), by omega⟩ L) := by
    unfold extractStridedSlice
    congr 1
    funext d
    match d with
    | ⟨0, _⟩ => rfl
    | ⟨1, _⟩ => exact Fin.ext (Nat.zero_add _)
  show FloatOps.addf (FloatOps.mulf (extractStridedSlice S16x128 ![off, 0] q hs (ix2 ⟨2 * a.val + e.val, by omega⟩ L)) (FloatOps.ofBits .bf16 (bitcast S16x128 16 _ _ _)))
    (FloatOps.mulf (extractStridedSlice S16x128 ![off, 0] q hs (ix2 ⟨2 * a.val + e.val, by omega⟩ L)) (FloatOps.ofBits .bf16 (bitcast S16x128 16 _ _ _))) = _
  rw [h2, h1, h1, lanes_apply hi idx a L n hn h, lanes_apply lo idx a L n hn h]

/-- Both tokens' rounded parts, and both tokens' rests. -/
theorem hi_half (u v : Vec F S1x128 .i32) (r : Fin 8) (L : Fin 128) (e : Nat) (he : e < 2) :
    (k0_pay108 u v (ix2 r L)).extractLsb' (16 * e) 16 = ((if e = 0 then u else v : IVec S1x128 32) (ix2 0 L)).extractLsb' 0 16 := by
  refine (pack_half _ _ _ he).trans ?_
  have key : ∀ w : Vec F S1x128 .i32, k0_pay106 w (ix2 r L) = (w : IVec S1x128 32) (ix2 0 L) := by
    intro w
    unfold k0_pay106
    rw [shapeCast_id]
    show w _ = _
    congr 1
    funext a
    match a with
    | ⟨0, _⟩ => rfl
    | ⟨1, _⟩ => rfl
  obtain rfl | rfl : e = 0 ∨ e = 1 := by omega
  · exact congrArg _ (key u)
  · exact congrArg _ (key v)
theorem lo_half (u v : Vec F S1x128 .i32) (r : Fin 8) (L : Fin 128) (e : Nat) (he : e < 2) :
    (k0_pay109 u v (ix2 r L)).extractLsb' (16 * e) 16 = ((if e = 0 then u else v : IVec S1x128 32) (ix2 0 L)).extractLsb' 16 16 := by
  refine (pack_half _ _ _ he).trans ?_
  have key : ∀ w : Vec F S1x128 .i32, shrui (k0_pay106 w) (broadcast S8x128 16#32) (ix2 r L) = (w : IVec S1x128 32) (ix2 0 L) >>> 16 := by
    intro w
    unfold k0_pay106
    rw [shapeCast_id]
    show w _ >>> 16 = _
    congr 2
    funext a
    match a with
    | ⟨0, _⟩ => rfl
    | ⟨1, _⟩ => rfl
  have sh : ∀ w : BitVec 32, (w >>> 16).extractLsb' 0 16 = w.extractLsb' 16 16 := by
    intro w
    apply BitVec.eq_of_getLsbD_eq
    intro i hi
    simp [BitVec.getLsbD_extractLsb', BitVec.getLsbD_ushiftRight]
  obtain rfl | rfl : e = 0 ∨ e = 1 := by omega
  · exact (congrArg _ (key u)).trans (sh _)
  · exact (congrArg _ (key v)).trans (sh _)

/-- The lookup's value: token `id`'s quantized value in column tile `c`, lane `L`, times both parts of its scale, summed. -/
def outVal (C : Nat → Nat → BitVec 8) (S : Nat → Nat → BitVec 16) (id c L : Nat) : F .bf16 :=
  FloatOps.addf
    (FloatOps.mulf (FloatOps.sitofp .bf16 ((snib (C id (64 * c + L / 2)) (L % 2)).signExtend 16)) (FloatOps.ofBits .bf16 ((splitHalf (S id (4 * c + L / 32))).extractLsb' 0 16)))
    (FloatOps.mulf (FloatOps.sitofp .bf16 ((snib (C id (64 * c + L / 2)) (L % 2)).signExtend 16)) (FloatOps.ofBits .bf16 ((splitHalf (S id (4 * c + L / 32))).extractLsb' 16 16)))

end Cert.Proof.Value

end
-- ==== Proof.Value.Ids.lean ====
/- Where the lookup's loop reads its ids, and from which lanes its scales. -/
module

public import proofs.«01_k».proof.Proof.Value.Lookup

@[expose] public section

set_option maxRecDepth 65536
set_option maxHeartbeats 400000

noncomputable section

namespace Cert.Proof.Value

open Cert.KernelIdeal Cert.KernelIdeal.Gen
open Cert.Proof.KernelIdeal (UU 𝒱₀ held InRange chk1_of_inRange chk2_of_inRange pairs held_pairs)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

/-- Where the pair's ids lie: step `s` after the filling reads row `s / 32`, from column `256 (s % 32)`. -/
theorem off21 : ∀ (i : grid0.Coords) (k : Fin k0_t3_loop.trips), k0_cond2 i = 1#1 →
    ∀ a, k0_off21 i k a = (![((i 0).val - 50) / 32, ((i 0).val - 50) % 32 * 256 + 2 * k.val] : Fin 2 → Nat) a := by decide +kernel
theorem off22 : ∀ (i : grid0.Coords) (k : Fin k0_t3_loop.trips), k0_cond2 i = 1#1 →
    ∀ a, k0_off22 i k a = (![((i 0).val - 50) / 32, ((i 0).val - 50) % 32 * 256 + (2 * k.val + 1)] : Fin 2 → Nat) a := by decide +kernel

/-- The first lanes: `4 r + L / 32`. -/
def GroupIs (v : IVec S8x128 32) : Prop := ∀ (r : Fin 8) (L : Fin 128), v (ix2 r L) = BitVec.ofNat 32 (4 * r.val + L.val / 32)

theorem pay119_group : GroupIs k0_pay119 := by
  have h : ∀ (r : Fin 8) (L : Fin 128), k0_pay119 (ix2 r L) = BitVec.ofNat 32 (4 * r.val + L.val / 32) := by decide +kernel
  exact h

end Cert.Proof.Value

end
-- ==== Proof.Value.OutLoop.lean ====
/- The lookup's loop with its values: after `n` trips the block holds the values of its first `2 n` tokens. -/
module

public import proofs.«01_k».proof.Proof.Value.Lookup
public import proofs.«01_k».proof.Proof.Value.Ids

@[expose] public section

set_option maxRecDepth 65536
set_option maxHeartbeats 400000

noncomputable section

namespace Cert.Proof.Value

open Cert.KernelIdeal Cert.KernelIdeal.Gen
open Cert.Proof.KernelIdeal (UU 𝒱₀ held InRange chk1_of_inRange chk2_of_inRange pairs held_pairs)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The id at `(b, c)`, as a row of the tables. -/
def idAt (ids : S4x8192.Idx → BitVec 32) (b c : Nat) : Nat :=
  if h : b < 4 ∧ c < 8192 then (ids (ix2 ⟨b, h.1⟩ ⟨c, h.2⟩)).toNat else 0

theorem inRange_toNat {w : BitVec 32} (h : InRange w) : w.toNat < 16000 := by
  obtain ⟨h1, h2⟩ := h
  rw [BitVec.toInt_eq_toNat_cond] at h1 h2
  have := w.isLt
  split at h1 <;> rename_i hc <;> simp only [hc, if_true, if_false] at h2 <;> omega

theorem shr_one {w : BitVec 32} (h : InRange w) : (Scalar.indexCast (Scalar.shrsi w 1#32)).toNat = w.toNat / 2 := by
  have hw : Affine.IsInt w w.toInt := Affine.word w
  have h1 : Affine.IsInt (Scalar.shrsi w 1#32) (w.toInt / 2) :=
    Affine.shrsi hw (Affine.ofNat 1 (by omega) : Affine.IsInt 1#32 1) 1 2 (by decide) ⟨by omega, by decide, by decide⟩
  have n1 : ((Scalar.indexCast (Scalar.shrsi w 1#32)).toNat : Int) = w.toInt / 2 :=
    Affine.toNat_of (Affine.indexCast h1) (by unfold InRange at h; omega)
  have n0 : ((Scalar.indexCast w).toNat : Int) = w.toInt := Affine.toNat_of (Affine.indexCast hw) h.1
  have n2 : (Scalar.indexCast w).toNat = w.toNat := rfl
  omega
theorem cast_nat (w : BitVec 32) : (Scalar.indexCast w).toNat = w.toNat := rfl

/-- The pair's ids, as read. -/
abbrev idA (i : grid0.Coords) (k : Fin k0_t3_loop.trips) (h2 : k0_cond2 i = 1#1) (arg1 : Memref sig .tc .smem S4x8192 .i32)
    (f1 : arg1.view.ty.Contents (Elt F)) : BitVec 32 :=
  View.readAt (Elt F) arg1.view (Rect.unit (s := S4x8192) (k0_off21 i k) S1x1.size (k0_off21_inb i k h2)).toLoadRect f1 (Shape.Idx.first (numel1_S1x1.symm ▸ Nat.one_pos))
@[inherit_doc idA]
abbrev idB (i : grid0.Coords) (k : Fin k0_t3_loop.trips) (h2 : k0_cond2 i = 1#1) (arg1 : Memref sig .tc .smem S4x8192 .i32)
    (f1 : arg1.view.ty.Contents (Elt F)) : BitVec 32 :=
  View.readAt (Elt F) arg1.view (Rect.unit (s := S4x8192) (k0_off22 i k) S1x1.size (k0_off22_inb i k h2)).toLoadRect f1 (Shape.Idx.first (numel1_S1x1.symm ▸ Nat.one_pos))

theorem id_read {sp : Space} (v : View sig .tc sp S4x8192 .i32) (f : v.ty.Contents (Elt F)) (b c : Nat) (off : Fin 2 → Nat) (inb) (x : S1x1.Idx)
    (ho : ∀ a, off a = (![b, c] : Fin 2 → Nat) a) :
    (View.readAt (Elt F) v (Rect.unit (s := S4x8192) off S1x1.size inb).toLoadRect f x : BitVec 32).toNat = idAt (v.read (Elt F) f) b c := by
  obtain rfl : off = ![b, c] := funext ho
  have hb : b + 1 ≤ 4 := inb 0
  have hc : c + 1 ≤ 8192 := inb 1
  have x0 : (x 0).val < 1 := (x 0).isLt
  have x1 : (x 1).val < 1 := (x 1).isLt
  unfold idAt
  rw [dif_pos ⟨by omega, by omega⟩, View.readAt_apply]
  congr 2
  funext d
  match d with
  | ⟨0, _⟩ => exact Fin.ext (by show b + 1 * (x 0).val = b; omega)
  | ⟨1, _⟩ => exact Fin.ext (by show c + 1 * (x 1).val = c; omega)

theorem id_inRange {sp : Space} (v : View sig .tc sp S4x8192 .i32) (f : v.ty.Contents (Elt F)) (hids : ∀ j, InRange (v.read (Elt F) f j)) (r : LoadRect S4x8192) (x) :
    InRange (View.readAt (Elt F) v r f x) := by rw [View.readAt_apply]; exact hids _

/-- A token's eight table rows, and its row of split scales, as read. -/
theorem codes_read (C : Nat → Nat → BitVec 8) {sp : Space} (v : View sig .tc sp S64008x128 .i32) (f : v.ty.Contents (Elt F))
    (hf : ∀ y, CodesAt C 8000 y (v.read (Elt F) f y)) (w : BitVec 32) (hw : InRange w) (off : Fin 2 → Nat) (inb)
    (ho : off = ![(Scalar.indexCast (Scalar.shrsi w 1#32)).toNat, 0]) (c : Fin 32) (L : Fin 128) :
    ((View.readAt (Elt F) v ⟨off, S8x128.size, ![8001, 1], inb⟩ f : S8x128.Idx → BitVec 32) (ix2 ⟨c.val / 4, by omega⟩ L)).extractLsb' (8 * (c.val % 4) + 4 * (w.toNat % 2)) 4
      = snib (C w.toNat (64 * c.val + L.val / 2)) (L.val % 2) := by
  subst ho
  have hlt := inRange_toNat hw
  rw [View.readAt_apply]
  have h := hf ((⟨![(Scalar.indexCast (Scalar.shrsi w 1#32)).toNat, 0], S8x128.size, ![8001, 1], inb⟩ : LoadRect S64008x128).idx (ix2 ⟨c.val / 4, by omega⟩ L))
    (c.val / 4) (w.toNat / 2) (c.val % 4 / 2) (c.val % 2) (w.toNat % 2) (by omega) (by omega) (by omega) (by omega) (by omega) (by omega) (by
      show (Scalar.indexCast (Scalar.shrsi w 1#32)).toNat + 8001 * (c.val / 4) = _
      rw [shr_one hw]; omega)
  have e1 : (((⟨![(Scalar.indexCast (Scalar.shrsi w 1#32)).toNat, 0], S8x128.size, ![8001, 1], inb⟩ : LoadRect S64008x128).idx (ix2 ⟨c.val / 4, by omega⟩ L)) 1).val = L.val := by
    show 0 + 1 * L.val = _; omega
  rw [e1] at h
  rw [show 8 * (c.val % 4) + 4 * (w.toNat % 2) = 16 * (c.val % 4 / 2) + 8 * (c.val % 2) + 4 * (w.toNat % 2) by omega]
  refine h.trans ?_
  congr 2 <;> omega

theorem scale_read (S : Nat → Nat → BitVec 16) {sp : Space} (v : View sig .tc sp S16000x128 .i32) (f : v.ty.Contents (Elt F))
    (hf : ∀ y, ScaleAt S 16000 y (v.read (Elt F) f y)) (w : BitVec 32) (hw : InRange w) (off : Fin 2 → Nat) (inb)
    (ho : off = ![(Scalar.indexCast w).toNat, 0]) (L : Fin 128) :
    (View.readAt (Elt F) v (Rect.unit (s := S16000x128) off S1x128.size inb).toLoadRect f : S1x128.Idx → BitVec 32) (ix2 0 L) = splitHalf (S w.toNat L.val) := by
  subst ho
  have hlt := inRange_toNat hw
  rw [View.readAt_apply]
  have h := hf ((Rect.unit (s := S16000x128) ![(Scalar.indexCast w).toNat, 0] S1x128.size inb).toLoadRect.idx (ix2 0 L))
  have e0 : (((Rect.unit (s := S16000x128) ![(Scalar.indexCast w).toNat, 0] S1x128.size inb).toLoadRect.idx (ix2 0 L)) 0).val = w.toNat := by
    show (Scalar.indexCast w).toNat + 1 * 0 = _; rw [cast_nat]; omega
  have e1 : (((Rect.unit (s := S16000x128) ![(Scalar.indexCast w).toNat, 0] S1x128.size inb).toLoadRect.idx (ix2 0 L)) 1).val = L.val := by
    show 0 + 1 * L.val = _; omega
  unfold ScaleAt at h
  rw [e0, e1] at h
  exact h hlt

/-- The lanes the scales are gathered from. -/
abbrev idxAt (v35 : IVec S8x128 32) (c : BitVec 32) : IVec S8x128 32 :=
  shapeCast S8x128 (shapeCast S8x128x1 (addi v35 (broadcast S8x128 c)) shapeCasts_S8x128_S8x128x1) shapeCasts_S8x128x1_S8x128

theorem idxAt_apply (v35 : IVec S8x128 32) (hv : GroupIs v35) (k4 : Nat) (h4 : k4 < 4) (r : Fin 8) (L : Fin 128) :
    idxAt v35 (BitVec.ofNat 32 (32 * k4)) (ix2 r L) = BitVec.ofNat 32 (4 * (8 * k4 + r.val) + L.val / 32) := by
  unfold idxAt
  rw [there_back]
  show v35 (ix2 r L) + BitVec.ofNat 32 (32 * k4) = _
  rw [hv, ← BitVec.ofNat_add]
  congr 1
  omega

/-- What the block holds at an index, for the first `n` pairs of the tokens of step `s`. -/
def OutAt (C : Nat → Nat → BitVec 8) (S : Nat → Nat → BitVec 16) (ids : S4x8192.Idx → BitVec 32) (s n : Nat) (y : S4096x2x128.Idx) (v : F .bf16) : Prop :=
  4 * ((y 0).val / 128) + (y 0).val % 4 < n →
    v = outVal C S (idAt ids (s / 32) (s % 32 * 256 + (2 * (4 * ((y 0).val / 128) + (y 0).val % 4) + (y 1).val))) ((y 0).val % 128 / 4) (y 2).val

abbrev outRows (i : grid0.Coords) (k : Fin k0_t3_loop.trips) (h2 : k0_cond2 i = 1#1) (u : Fin 4) : Rect S4096x2x128 :=
  ⟨⟨k0_off27 k (BitVec.ofNat 32 (32 * u.val)), S8x2x128.size, ![4, 1, 1], k0_off27_inb i k h2 u⟩, spos_4_1_1⟩

/-- One trip's stores, the last first, from the words it read. -/
def outPieces (i : grid0.Coords) (k : Fin k0_t3_loop.trips) (h2 : k0_cond2 i = 1#1) (v35 : IVec S8x128 32) (wa wb : BitVec 32)
    (x y : Vec F S8x128 .i32) (u v : Vec F S1x128 .i32) : List (View.Piece (Elt F) S4096x2x128 .bf16) :=
  [⟨outRows i k h2 3, pieceAt 48 slices_S64x128_o48_0_S16x128 (sitofp (F := F) .bf16 (q16 (F := F) wa wb x y)) (k0_pay108 u v) (k0_pay109 u v) (idxAt v35 96#32)⟩,
   ⟨outRows i k h2 2, pieceAt 32 slices_S64x128_o32_0_S16x128 (sitofp (F := F) .bf16 (q16 (F := F) wa wb x y)) (k0_pay108 u v) (k0_pay109 u v) (idxAt v35 64#32)⟩,
   ⟨outRows i k h2 1, pieceAt 16 slices_S64x128_o16_0_S16x128 (sitofp (F := F) .bf16 (q16 (F := F) wa wb x y)) (k0_pay108 u v) (k0_pay109 u v) (idxAt v35 32#32)⟩,
   ⟨outRows i k h2 0, pieceAt 0 slices_S64x128_o0_0_S16x128 (sitofp (F := F) .bf16 (q16 (F := F) wa wb x y)) (k0_pay108 u v) (k0_pay109 u v) (idxAt v35 0#32)⟩]

theorem out_piece_ok (C : Nat → Nat → BitVec 8) (S : Nat → Nat → BitVec 16) (ids : S4x8192.Idx → BitVec 32) (s n t u4 : Nat) (hu : u4 < 4)
    (v35 : IVec S8x128 32) (hv : GroupIs v35) (wa wb : BitVec 32) (x y : Vec F S8x128 .i32) (u v : Vec F S1x128 .i32)
    (hid : ∀ e < 2, (if e = 0 then wa else wb).toNat = idAt ids (s / 32) (s % 32 * 256 + (2 * t + e)))
    (hx : ∀ e < 2, ∀ (c : Fin 32) (L : Fin 128), ((if e = 0 then x else y : S8x128.Idx → BitVec 32) (ix2 ⟨c.val / 4, by omega⟩ L)).extractLsb'
      (8 * (c.val % 4) + 4 * ((if e = 0 then wa else wb).toNat % 2)) 4 = snib (C (if e = 0 then wa else wb).toNat (64 * c.val + L.val / 2)) (L.val % 2))
    (hs : ∀ e < 2, ∀ L : Fin 128, (if e = 0 then u else v : S1x128.Idx → BitVec 32) (ix2 0 L) = splitHalf (S (if e = 0 then wa else wb).toNat L.val))
    (hsl : S64x128.Slices ![16 * u4, 0] S16x128) (off : Fin 3 → Nat) (inb pos) (ho : off = ![128 * (t / 4) + t % 4 + 32 * u4, 0, 0]) (z : S8x2x128.Idx) :
    OutAt C S ids s n ((Rect.mk (s := S4096x2x128) ⟨off, S8x2x128.size, ![4, 1, 1], inb⟩ pos).emb z)
      (pieceAt (16 * u4) hsl (sitofp (F := F) .bf16 (q16 (F := F) wa wb x y)) (k0_pay108 u v) (k0_pay109 u v) (idxAt v35 (BitVec.ofNat 32 (32 * u4))) z) := by
  subst ho
  obtain ⟨a, e, L, rfl⟩ : ∃ a e L, z = ix3 a e L := ⟨_, _, _, eq_ix3 z⟩
  intro _
  have e0 : ((Rect.mk (s := S4096x2x128) ⟨![128 * (t / 4) + t % 4 + 32 * u4, 0, 0], S8x2x128.size, ![4, 1, 1], inb⟩ pos).emb (ix3 a e L) 0).val
      = 128 * (t / 4) + t % 4 + 32 * u4 + 4 * a.val := rfl
  have e1 : ((Rect.mk (s := S4096x2x128) ⟨![128 * (t / 4) + t % 4 + 32 * u4, 0, 0], S8x2x128.size, ![4, 1, 1], inb⟩ pos).emb (ix3 a e L) 1).val = e.val := by
    show 0 + 1 * e.val = _; omega
  have e2 : ((Rect.mk (s := S4096x2x128) ⟨![128 * (t / 4) + t % 4 + 32 * u4, 0, 0], S8x2x128.size, ![4, 1, 1], inb⟩ pos).emb (ix3 a e L) 2).val = L.val := by
    show 0 + 1 * L.val = _; omega
  rw [e0, e1, e2, show 4 * ((128 * (t / 4) + t % 4 + 32 * u4 + 4 * a.val) / 128) + (128 * (t / 4) + t % 4 + 32 * u4 + 4 * a.val) % 4 = t by omega,
    show (128 * (t / 4) + t % 4 + 32 * u4 + 4 * a.val) % 128 / 4 = 8 * u4 + a.val by omega, ← hid e.val e.isLt,
    pieceAt_apply _ _ (by omega) _ _ _ _ a e L (4 * (8 * u4 + a.val) + L.val / 32) (by omega) (idxAt_apply v35 hv u4 hu a L),
    hi_half u v _ _ e.val e.isLt, lo_half u v _ _ e.val e.isLt, hs e.val e.isLt]
  unfold outVal
  have hq : sitofp (F := F) .bf16 (q16 (F := F) wa wb x y) (ix2 ⟨16 * u4 + (2 * a.val + e.val), by omega⟩ L)
      = FloatOps.sitofp .bf16 ((snib (C (if e.val = 0 then wa else wb).toNat (64 * (8 * u4 + a.val) + L.val / 2)) (L.val % 2)).signExtend 16) := by
    show FloatOps.sitofp .bf16 (q16 (F := F) wa wb x y (ix2 ⟨16 * u4 + (2 * a.val + e.val), by omega⟩ L)) = _
    rw [q16_apply]
    dsimp only
    have r1 : (16 * u4 + (2 * a.val + e.val)) % 2 = e.val := by omega
    have r2 : (16 * u4 + (2 * a.val + e.val)) / 2 = 8 * u4 + a.val := by omega
    have := hx e.val e.isLt ⟨8 * u4 + a.val, by omega⟩ L
    dsimp only at this
    simp only [r1, r2]
    rw [this]
  rw [hq]

theorem out_rows_hit (y : S4096x2x128.Idx) (t u4 : Nat) (ht : 4 * ((y 0).val / 128) + (y 0).val % 4 = t) (hu : (y 0).val % 128 / 32 = u4)
    (off : Fin 3 → Nat) (inb pos) (ho : off = ![128 * (t / 4) + t % 4 + 32 * u4, 0, 0]) :
    y ∈ (Rect.mk (s := S4096x2x128) ⟨off, S8x2x128.size, ![4, 1, 1], inb⟩ pos).set := by
  subst ho
  refine (LoadRect.mem_set _).mpr fun a => ?_
  match a with
  | ⟨0, _⟩ =>
    refine ⟨(y 0).val % 32 / 4, by show _ < 8; omega, ?_⟩
    show (y 0).val = 128 * (t / 4) + t % 4 + 32 * u4 + 4 * ((y 0).val % 32 / 4)
    omega
  | ⟨1, _⟩ =>
    refine ⟨(y 1).val, (y 1).isLt, ?_⟩
    show (y 1).val = 0 + 1 * (y 1).val
    omega
  | ⟨2, _⟩ =>
    refine ⟨(y 2).val, (y 2).isLt, ?_⟩
    show (y 2).val = 0 + 1 * (y 2).val
    omega

/-- One trip's stores keep the values held and add one pair of tokens. -/
theorem out_trip (C : Nat → Nat → BitVec 8) (S : Nat → Nat → BitVec 16) (i : grid0.Coords) (k : Fin k0_t3_loop.trips) (h2 : k0_cond2 i = 1#1)
    (v35 : IVec S8x128 32) (hv : GroupIs v35) (arg1 : Memref sig .tc .smem S4x8192 .i32) (f1 : arg1.view.ty.Contents (Elt F))
    (hids : ∀ j, InRange (arg1.view.read (Elt F) f1 j))
    (arg5 : Memref sig .tc .vmem S64008x128 .i32) (f5 : arg5.view.ty.Contents (Elt F)) (h5 : ∀ y, CodesAt C 8000 y (arg5.view.read (Elt F) f5 y))
    (arg6 : Memref sig .tc .vmem S16000x128 .i32) (f6 : arg6.view.ty.Contents (Elt F)) (h6 : ∀ y, ScaleAt S 16000 y (arg6.view.read (Elt F) f6 y))
    {sp : Space} (v4 : View sig .tc sp S4096x2x128 .bf16) (f4 : v4.ty.Contents (Elt F))
    (h4 : ∀ y, OutAt C S (arg1.view.read (Elt F) f1) ((i 0).val - 50) k.val y (v4.read (Elt F) f4 y))
    (ia1 ia2 ib1 ib2) (y : S4096x2x128.Idx) :
    OutAt C S (arg1.view.read (Elt F) f1) ((i 0).val - 50) (k.val + 1) y (v4.read (Elt F) (v4.writes (Elt F) f4
      (outPieces i k h2 v35 (idA i k h2 arg1 f1) (idB i k h2 arg1 f1)
        (View.readAt (Elt F) arg5.view ⟨k0_off23 (idA i k h2 arg1 f1), S8x128.size, ![8001, 1], ia1⟩ f5)
        (View.readAt (Elt F) arg5.view ⟨k0_off24 (idB i k h2 arg1 f1), S8x128.size, ![8001, 1], ib1⟩ f5)
        (View.readAt (Elt F) arg6.view (Rect.unit (s := S16000x128) (k0_off25 (idA i k h2 arg1 f1)) S1x128.size ia2).toLoadRect f6)
        (View.readAt (Elt F) arg6.view (Rect.unit (s := S16000x128) (k0_off26 (idB i k h2 arg1 f1)) S1x128.size ib2).toLoadRect f6))) y) := by
  have ra : InRange (idA i k h2 arg1 f1) := id_inRange _ _ hids _ _
  have rb : InRange (idB i k h2 arg1 f1) := id_inRange _ _ hids _ _
  have na : (idA i k h2 arg1 f1).toNat = idAt (arg1.view.read (Elt F) f1) (((i 0).val - 50) / 32) (((i 0).val - 50) % 32 * 256 + (2 * k.val + 0)) :=
    id_read _ _ _ _ _ _ _ (off21 i k h2)
  have nb : (idB i k h2 arg1 f1).toNat = idAt (arg1.view.read (Elt F) f1) (((i 0).val - 50) / 32) (((i 0).val - 50) % 32 * 256 + (2 * k.val + 1)) :=
    id_read _ _ _ _ _ _ _ (off22 i k h2)
  have xa := fun c L => codes_read C arg5.view f5 h5 _ ra (k0_off23 (idA i k h2 arg1 f1)) ia1 rfl c L
  have xb := fun c L => codes_read C arg5.view f5 h5 _ rb (k0_off24 (idB i k h2 arg1 f1)) ib1 rfl c L
  have sa := fun L => scale_read S arg6.view f6 h6 _ ra (k0_off25 (idA i k h2 arg1 f1)) ia2 rfl L
  have sb := fun L => scale_read S arg6.view f6 h6 _ rb (k0_off26 (idB i k h2 arg1 f1)) ib2 rfl L
  generalize idA i k h2 arg1 f1 = wa at *
  generalize idB i k h2 arg1 f1 = wb at *
  generalize View.readAt (Elt F) arg5.view ⟨k0_off23 wa, S8x128.size, ![8001, 1], ia1⟩ f5 = X at *
  generalize View.readAt (Elt F) arg5.view ⟨k0_off24 wb, S8x128.size, ![8001, 1], ib1⟩ f5 = Y at *
  generalize View.readAt (Elt F) arg6.view (Rect.unit (s := S16000x128) (k0_off25 wa) S1x128.size ia2).toLoadRect f6 = U at *
  generalize View.readAt (Elt F) arg6.view (Rect.unit (s := S16000x128) (k0_off26 wb) S1x128.size ib2).toLoadRect f6 = W at *
  have hid : ∀ e < 2, (if e = 0 then wa else wb).toNat = idAt (arg1.view.read (Elt F) f1) (((i 0).val - 50) / 32) (((i 0).val - 50) % 32 * 256 + (2 * k.val + e)) := by
    intro e he
    obtain rfl | rfl : e = 0 ∨ e = 1 := by omega
    · exact na
    · exact nb
  have hx : ∀ e < 2, ∀ (c : Fin 32) (L : Fin 128), ((if e = 0 then X else Y : S8x128.Idx → BitVec 32) (ix2 ⟨c.val / 4, by omega⟩ L)).extractLsb'
      (8 * (c.val % 4) + 4 * ((if e = 0 then wa else wb).toNat % 2)) 4 = snib (C (if e = 0 then wa else wb).toNat (64 * c.val + L.val / 2)) (L.val % 2) := by
    intro e he
    obtain rfl | rfl : e = 0 ∨ e = 1 := by omega
    · exact xa
    · exact xb
  have hs : ∀ e < 2, ∀ L : Fin 128, (if e = 0 then U else W : S1x128.Idx → BitVec 32) (ix2 0 L) = splitHalf (S (if e = 0 then wa else wb).toNat L.val) := by
    intro e he
    obtain rfl | rfl : e = 0 ∨ e = 1 := by omega
    · exact sa
    · exact sb
  have ok := fun n u4 hu hsl off inb pos ho z => out_piece_ok C S (arg1.view.read (Elt F) f1) ((i 0).val - 50) n k.val u4 hu v35 hv wa wb X Y U W hid hx hs hsl off inb pos ho z
  refine read_writes_fact v4 f4 (OutAt C S (arg1.view.read (Elt F) f1) ((i 0).val - 50) (k.val + 1)) y _ ?_ ?_
  · intro p hp
    simp only [outPieces, List.mem_cons, List.mem_nil_iff, or_false] at hp
    rcases hp with rfl | rfl | rfl | rfl
    · exact fun z => ok _ 3 (by decide) _ _ _ _ (k0_off27_eq k 3) z
    · exact fun z => ok _ 2 (by decide) _ _ _ _ (k0_off27_eq k 2) z
    · exact fun z => ok _ 1 (by decide) _ _ _ _ (k0_off27_eq k 1) z
    · exact fun z => ok _ 0 (by decide) _ _ _ _ (k0_off27_eq k 0) z
  · by_cases hc : 4 * ((y 0).val / 128) + (y 0).val % 4 = k.val
    · refine Or.inl ?_
      unfold outPieces
      have hu : (y 0).val % 128 / 32 < 4 := by omega
      generalize hg : (y 0).val % 128 / 32 = u4 at hu
      interval_cases u4
      · exact ⟨_, List.mem_cons_of_mem _ (List.mem_cons_of_mem _ (List.mem_cons_of_mem _ List.mem_cons_self)), out_rows_hit y _ 0 hc hg _ _ _ (k0_off27_eq k 0)⟩
      · exact ⟨_, List.mem_cons_of_mem _ (List.mem_cons_of_mem _ List.mem_cons_self), out_rows_hit y _ 1 hc hg _ _ _ (k0_off27_eq k 1)⟩
      · exact ⟨_, List.mem_cons_of_mem _ List.mem_cons_self, out_rows_hit y _ 2 hc hg _ _ _ (k0_off27_eq k 2)⟩
      · exact ⟨_, List.mem_cons_self, out_rows_hit y _ 3 hc hg _ _ _ (k0_off27_eq k 3)⟩
    · refine Or.inr fun hn => h4 y (by omega)

local notation "𝕄" => MT nD τ sig Unit (Elt F) ℕ (UU nD τ) ℕ

set_option warn.classDefReducibility false in
/-- The lookup's loop: after `n` trips the block holds its first `2 n` tokens' values. -/
@[sl_loop] noncomputable def loopInv_k0_t3 (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole) (k0_h2 : k0_cond2 i = 1#1) (v35 : IVec S8x128 32) (v52 : BitVec 32) (v63 : BitVec 32)
    (C : Nat → Nat → BitVec 8) (S : Nat → Nat → BitVec 16)
    (f1 : Buf (Elt F) (arg1.view.loc (c : Thread nD τ))) (f5 : Buf (Elt F) (arg5.view.loc (c : Thread nD τ))) (f6 : Buf (Elt F) (arg6.view.loc (c : Thread nD τ))) :
    LoopInvTy_k0_t3 (F := F) Unit ℕ (UU nD τ) ℕ 𝒱₀ c none Set.univ i arg1 harg1 arg2 harg2 arg3 harg3 arg4 harg4 arg5 harg5 arg6 harg6 k0_h2 v35 v52 v63 where
  inv := fun n _ => iprop(⌜(∀ j, InRange (arg1.view.read (Elt F) f1 j)) ∧ GroupIs v35 ∧ (∀ y, CodesAt C 8000 y (arg5.view.read (Elt F) f5 y))
      ∧ ∀ y, ScaleAt S 16000 y (arg6.view.read (Elt F) f6 y)⌝
    ∗ (arg1.view.loc (c : Thread nD τ) ↦[arg1.view.set]{fullShare.right} f1) ∗ held c arg5 (tag C f5) ∗ held c arg6 (tag S f6)
    ∗ ∃ f, held c (pairs arg4 harg4) f ∗ ⌜∀ y, OutAt C S (arg1.view.read (Elt F) f1) ((i 0).val - 50) n y ((pairs arg4 harg4).view.read (Elt F) f y)⌝)
  step := fun k acc => by
    unfold k0_t3_body
    iintro ⟨%hp, H1, H5, H6, ⟨%f4, H4, %h4⟩⟩
    have hids := hp.1
    sl_exec (disch := first | exact chk1_of_inRange _ _ (hids _) | exact chk2_of_inRange _ _ (hids _))
    sl_step
    isplitr; · ipureintro; exact hp
    isplitl [H1]; · iexact H1
    isplitl [H5]; · iexact H5
    isplitl [H6]; · iexact H6
    iexists _
    isplitl [H4]; · iexact H4
    ipureintro
    intro y
    exact out_trip C S i k k0_h2 v35 hp.2.1 arg1 f1 hp.1 arg5 f5 hp.2.2.1 arg6 f6 hp.2.2.2 (pairs arg4 harg4).view f4 h4 _ _ _ _ y

end Cert.Proof.Value

end
-- ==== Proof.Value.Body.lean ====
/- One run of the body with its values: a filling point extends the tables, a lookup point writes its block. -/
module

public import proofs.«01_k».proof.Proof.Value.OutLoop

@[expose] public section

set_option maxRecDepth 65536
set_option maxHeartbeats 1000000

noncomputable section

namespace Cert.Proof.Value

open Cert.KernelIdeal Cert.KernelIdeal.Gen
open Cert.Proof.KernelIdeal (UU 𝒱₀ held InRange chk1_of_inRange chk2_of_inRange pairs held_pairs)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-- A filling point: block `i` of the codes and of the scales goes into the tables. -/
theorem fill_run (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole)
    (C : Nat → Nat → BitVec 8) (S : Nat → Nat → BitVec 16)
    (f2 : Buf (Elt F) (arg2.view.loc (c : Thread nD τ))) (f3 : Buf (Elt F) (arg3.view.loc (c : Thread nD τ)))
    (f5 : Buf (Elt F) (arg5.view.loc (c : Thread nD τ))) (f6 : Buf (Elt F) (arg6.view.loc (c : Thread nD τ)))
    (h1 : k0_cond1 i = 1#1) (h2 : ¬ k0_cond2 i = 1#1)
    (hb : BlockIs C (i 0).val (arg2.view.read (Elt F) f2)) (hs : ScalesAre S (i 0).val (arg3.view.read (Elt F) f3))
    (h5 : ∀ y, CodesAt C (160 * (i 0).val + 16 * 0) y (arg5.view.read (Elt F) f5 y)) (h6 : ∀ y, ScaleAt S (320 * (i 0).val + 16 * 0) y (arg6.view.read (Elt F) f6 y))
    (K : PUnit → sProp 𝕄) :
    iprop(held c arg2 f2 ∗ held c arg3 f3 ∗ held c arg5 f5 ∗ held c arg6 f6
        ∗ (iprop(held c arg2 f2 ∗ held c arg3 f3
        ∗ (∃ f, held c arg5 f ∗ ⌜∀ y, CodesAt C (160 * (i 0).val + 16 * k0_t1_loop.trips) y (arg5.view.read (Elt F) f y)⌝)
        ∗ (∃ f, held c arg6 f ∗ ⌜∀ y, ScaleAt S (320 * (i 0).val + 16 * k0_t2_loop.trips) y (arg6.view.read (Elt F) f y)⌝)) -∗ K ⟨⟩))
      ⊢ wp frame (wpE (defs₀ (F := F)) 𝒱₀ c none) Set.univ (cc0__body i arg1 harg1 arg2 harg2 arg3 harg3 arg4 harg4 arg5 harg5 arg6 harg6) K := by
  simp only [cc0__body_eq_skeleton]; unfold cc0__body_skel
  simp only [h1, h2, dite_true, dite_false]
  change iprop(held c arg2 (tag C f2) ∗ held c arg3 (tag S f3) ∗ _) ⊢ _
  iintro ⟨H2, H3, H5, H6, Hk⟩
  sl_exec
  sl_step
  iapply Hk
  isplitl [H2]; · iexact H2
  isplitl [H3]; · iexact H3
  isplitl [H5]
  · iexists _
    isplitl [H5]; · iexact H5
    ipureintro; assumption
  · iexists _
    isplitl [H6]; · iexact H6
    ipureintro; assumption

/-- A lookup point: the block's 256 tokens' values go into the output's block. -/
theorem lookup_run (c : Dev nD) (i : grid0.Coords) (arg1 : Memref sig .tc .smem S4x8192 .i32) (harg1 : arg1.IsWhole) (arg2 : Memref sig .tc .vmem S320x2048 .i8) (harg2 : arg2.IsWhole) (arg3 : Memref sig .tc .vmem S320x128 .i16) (harg3 : arg3.IsWhole) (arg4 : Memref sig .tc .vmem S8192x128 .bf16) (harg4 : arg4.IsWhole) (arg5 : Memref sig .tc .vmem S64008x128 .i32) (harg5 : arg5.IsWhole) (arg6 : Memref sig .tc .vmem S16000x128 .i32) (harg6 : arg6.IsWhole)
    (C : Nat → Nat → BitVec 8) (S : Nat → Nat → BitVec 16)
    (f1 : Buf (Elt F) (arg1.view.loc (c : Thread nD τ))) (f4 : Buf (Elt F) (arg4.view.loc (c : Thread nD τ)))
    (f5 : Buf (Elt F) (arg5.view.loc (c : Thread nD τ))) (f6 : Buf (Elt F) (arg6.view.loc (c : Thread nD τ)))
    (h1 : ¬ k0_cond1 i = 1#1) (h2 : k0_cond2 i = 1#1)
    (hids : ∀ j, InRange (arg1.view.read (Elt F) f1 j))
    (h5 : ∀ y, CodesAt C 8000 y (arg5.view.read (Elt F) f5 y)) (h6 : ∀ y, ScaleAt S 16000 y (arg6.view.read (Elt F) f6 y))
    (K : PUnit → sProp 𝕄) :
    iprop((arg1.view.loc (c : Thread nD τ) ↦[arg1.view.set]{fullShare.right} f1) ∗ held c arg4 f4 ∗ held c arg5 f5 ∗ held c arg6 f6
        ∗ (iprop((arg1.view.loc (c : Thread nD τ) ↦[arg1.view.set]{fullShare.right} f1)
        ∗ (∃ f, held c arg4 f ∗ ⌜∀ y, OutAt C S (arg1.view.read (Elt F) f1) ((i 0).val - 50) k0_t3_loop.trips y ((pairs arg4 harg4).view.read (Elt F) f y)⌝)
        ∗ held c arg5 f5 ∗ held c arg6 f6) -∗ K ⟨⟩))
      ⊢ wp frame (wpE (defs₀ (F := F)) 𝒱₀ c none) Set.univ (cc0__body i arg1 harg1 arg2 harg2 arg3 harg3 arg4 harg4 arg5 harg5 arg6 harg6) K := by
  simp only [cc0__body_eq_skeleton]; unfold cc0__body_skel
  simp only [h1, h2, dite_true, dite_false]
  simp only [← held_pairs c arg4 harg4]
  have hp : (∀ j, InRange (arg1.view.read (Elt F) f1 j)) ∧ GroupIs k0_pay119 ∧ (∀ y, CodesAt C 8000 y (arg5.view.read (Elt F) f5 y))
      ∧ ∀ y, ScaleAt S 16000 y (arg6.view.read (Elt F) f6 y) := ⟨hids, pay119_group, h5, h6⟩
  have h4 : ∀ y, OutAt C S (arg1.view.read (Elt F) f1) ((i 0).val - 50) 0 y ((pairs arg4 harg4).view.read (Elt F) f4 y) :=
    fun y h => absurd h (Nat.not_lt_zero _)
  change iprop(_ ∗ _ ∗ held c arg5 (tag C f5) ∗ held c arg6 (tag S f6) ∗ _) ⊢ _
  iintro ⟨H1, H4, H5, H6, Hk⟩
  sl_exec
  sl_step
  iapply Hk
  isplitl [H1]; · iexact H1
  isplitl [H4]
  · iexists _
    isplitl [H4]; · iexact H4
    ipureintro; assumption
  isplitl [H5]; · iexact H5
  iexact H6

end Cert.Proof.Value

end
-- ==== Proof.Value.Launch.lean ====
/- The launch with its values: the tables filled block by block, then every block of the output looked up. -/
module

public import proofs.«01_k».proof.Proof.KernelIdeal.Frame
public import proofs.«01_k».proof.Proof.Value.Body
public import Idealize.ShloMosaic.Lib.Pipeline.ValueKit

@[expose] public section

set_option maxRecDepth 65536
set_option maxHeartbeats 400000

noncomputable section

namespace Cert.Proof.Value

open Cert.KernelIdeal Cert.KernelIdeal.Gen
open Cert.Proof.KernelIdeal (UU 𝒱₀ held InRange pairs held_pairs V0 V adm pcfg iblk ΦT_eq bodyAt defs₀_row)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UU nD τ) ℕ

/-- The codes as a function of row and column, zero outside the array. -/
def codesOf (x : S16000x2048.Idx → BitVec 8) (a b : Nat) : BitVec 8 :=
  if h : a < 16000 ∧ b < 2048 then x (ix2 ⟨a, h.1⟩ ⟨b, h.2⟩) else 0
/-- The scales' patterns likewise. -/
def scalesOf (x : S16000x128.Idx → BitVec 16) (a b : Nat) : BitVec 16 :=
  if h : a < 16000 ∧ b < 128 then x (ix2 ⟨a, h.1⟩ ⟨b, h.2⟩) else 0

/-- Row `R`, lane `L` of output block `s`: token `8 (R / 256) + R % 8` of the block, columns `128 ((R % 256) / 8) + L`. -/
def outBlk (C : Nat → Nat → BitVec 8) (S : Nat → Nat → BitVec 16) (ids : S4x8192.Idx → BitVec 32) (s R L : Nat) : F .bf16 :=
  outVal C S (idAt ids (s / 32) (s % 32 * 256 + (8 * (R / 256) + R % 8))) (R % 256 / 8) L

variable (m : (ℓ : Loc nD τ sig) → Buf (Elt F) ℓ) (ρ : Dev nD → PrngReg)

/-- The launch's codes and scales. -/
abbrev CC (c : Dev nD) : Nat → Nat → BitVec 8 := codesOf (V m c main_arg1)
@[inherit_doc CC]
abbrev SS (c : Dev nD) : Nat → Nat → BitVec 16 := scalesOf (V m c main_arg2)

/-- Before point `n` the tables hold the first `min n 50` blocks. -/
def PhiS (c : Dev nD) (n : Nat) : sProp 𝕄 :=
  iprop((∃ f : Buf (Elt F) ((c : Thread nD τ).loc cc0_scratch0), (((c : Thread nD τ).loc cc0_scratch0) ↦{fullShare} f) ∗ ⌜∀ y, CodesAt (CC m c) (160 * min n 50) y (f y)⌝)
    ∗ (∃ f : Buf (Elt F) ((c : Thread nD τ).loc cc0_scratch1), (((c : Thread nD τ).loc cc0_scratch1) ↦{fullShare} f) ∗ ⌜∀ y, ScaleAt (SS m c) (320 * min n 50) y (f y)⌝)
    ∗ (∃ r, prngReg c r) ∗ (c : Thread nD τ).loc main_arg0 ↦{fullShare.right} V m 0 main_arg0)

/-- What the output's buffer holds after point `t`, if the point writes it. -/
def outAft (c : Dev nD) (t : Nat) (y : S8192x128.Idx) : F .bf16 := outBlk (CC m c) (SS m c) (V m 0 main_arg0) (t - 50) (y 0).val (y 1).val

/-- The proof data: the inputs' buffers at their blocks, the output's at its values. -/
def vdats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => outAft m c t.val
    | ⟨_ + 3, h⟩ => absurd h (Nat.not_lt.2 (Nat.le_add_left _ _))
  Φ t := PhiS m c t.val
  q _ := fullShare
  owed _ := 0

theorem vA_eq (c : Dev nD) (w : Fin 3) : (vdats m 0 c).A w = V m c (Pipeline.arrRef spec0 w) := by dsimp only [vdats]
theorem after_0 (c : Dev nD) (t) : (vdats m 0 c).after (0 : Fin 3) t = iblk m c 0 t := rfl
theorem after_1 (c : Dev nD) (t) : (vdats m 0 c).after (1 : Fin 3) t = iblk m c 1 t := rfl
theorem after_2 (c : Dev nD) (t) : (vdats m 0 c).after (2 : Fin 3) t = outAft m c t.val := rfl
theorem vΦ_eq (c : Dev nD) (t) : (vdats m 0 c).Φ t = PhiS m c t.val := by dsimp only [vdats]

theorem vbefore_0 (c : Dev nD) (t : Fin (pcfg m).N) (d) : (vdats m 0 c).before (0 : Fin 3) t d = iblk m c 0 t :=
  ((vdats m 0 c).before_in_eq_fetched (0 : Fin 3) rfl (fun _ => rfl) (fun _ _ _ => rfl) (fun t => by rw [after_0]; unfold Dat.blockOf iblk; rw [vA_eq]; try rfl) t d).trans
    (by unfold Dat.fetched Dat.blockOf iblk; rw [vA_eq]; try rfl)
theorem vbefore_1 (c : Dev nD) (t : Fin (pcfg m).N) (d) : (vdats m 0 c).before (1 : Fin 3) t d = iblk m c 1 t :=
  ((vdats m 0 c).before_in_eq_fetched (1 : Fin 3) rfl (fun _ => rfl) (fun _ _ _ => rfl) (fun t => by rw [after_1]; unfold Dat.blockOf iblk; rw [vA_eq]; try rfl) t d).trans
    (by unfold Dat.fetched Dat.blockOf iblk; rw [vA_eq]; try rfl)

/-! ## The grid's points, decided -/

theorem coords_val : ∀ t : Fin grid0.N, (grid0.coords t 0).val = t.val := by decide +kernel
theorem filling : ∀ t : Fin grid0.N, t.val < 50 → k0_cond1 (grid0.coords t) = 1#1 ∧ ¬ k0_cond2 (grid0.coords t) = 1#1 := by decide +kernel
theorem looking : ∀ t : Fin grid0.N, 50 ≤ t.val → ¬ k0_cond1 (grid0.coords t) = 1#1 ∧ k0_cond2 (grid0.coords t) = 1#1 := by decide +kernel
theorem index_in : ∀ t : Fin grid0.N, t.val < 50 → cc0_transform_0 (grid0.coords t) = ![t.val, 0] ∧ cc0_transform_1 (grid0.coords t) = ![t.val, 0] := by decide +kernel
theorem index_out : ∀ t : Fin grid0.N, cc0_transform_2 (grid0.coords t) = ![t.val - 50, 0] := by decide +kernel
theorem no_flush : ∀ t : Fin grid0.N, t.val < 50 → Window.flushOf grid0 true cc0_transform_2 t = false := by decide +kernel

/-- The codes' block at a filling point. -/
theorem codes_block (c : Dev nD) (t : Fin (pcfg m).N) (ht : t.val < 50) : BlockIs (CC m c) (grid0.coords t 0).val (iblk m c 0 t) := by
  intro a b
  have ha : a.val < 320 := a.isLt
  have hb : b.val < 2048 := b.isLt
  have hc : (grid0.coords t 0).val = t.val := coords_val t
  show V m c main_arg1 _ = _
  unfold CC codesOf
  rw [dif_pos ⟨by omega, by omega⟩]
  refine congrArg (V m c main_arg1) (funext fun d => ?_)
  have hi := (index_in t ht).1
  match d with
  | ⟨0, _⟩ =>
    refine Fin.ext ?_
    show cc0_transform_0 (grid0.coords t) 0 * 320 + 1 * a.val = 320 * (grid0.coords t 0).val + a.val
    rw [hi, hc]; show t.val * 320 + 1 * a.val = _; omega
  | ⟨1, _⟩ =>
    refine Fin.ext ?_
    show cc0_transform_0 (grid0.coords t) 1 * 2048 + 1 * b.val = b.val
    rw [hi]; show 0 * 2048 + 1 * b.val = _; omega

/-- The scales' block at a filling point. -/
theorem scales_block (c : Dev nD) (t : Fin (pcfg m).N) (ht : t.val < 50) : ScalesAre (SS m c) (grid0.coords t 0).val (iblk m c 1 t) := by
  intro a b
  have ha : a.val < 320 := a.isLt
  have hb : b.val < 128 := b.isLt
  have hc : (grid0.coords t 0).val = t.val := coords_val t
  show V m c main_arg2 _ = _
  unfold SS scalesOf
  rw [dif_pos ⟨by omega, by omega⟩]
  refine congrArg (V m c main_arg2) (funext fun d => ?_)
  have hi := (index_in t ht).2
  match d with
  | ⟨0, _⟩ =>
    refine Fin.ext ?_
    show cc0_transform_1 (grid0.coords t) 0 * 320 + 1 * a.val = 320 * (grid0.coords t 0).val + a.val
    rw [hi, hc]; show t.val * 320 + 1 * a.val = _; omega
  | ⟨1, _⟩ =>
    refine Fin.ext ?_
    show cc0_transform_1 (grid0.coords t) 1 * 128 + 1 * b.val = b.val
    rw [hi]; show 0 * 128 + 1 * b.val = _; omega

/-- The block read through its pairs of rows is the block. -/
theorem out_of_pairs (C : Nat → Nat → BitVec 8) (S : Nat → Nat → BitVec 16) (ids : S4x8192.Idx → BitVec 32) (s : Nat)
    (arg4 : Memref sig .tc .vmem S8192x128 .bf16) (harg4 : arg4.IsWhole) (f : arg4.view.ty.Contents (Elt F))
    (h : ∀ y, OutAt C S ids s k0_t3_loop.trips y ((pairs arg4 harg4).view.read (Elt F) f y)) (y : S8192x128.Idx) :
    arg4.view.read (Elt F) f y = outBlk C S ids s (y 0).val (y 1).val := by
  have h0 : (y 0).val < 8192 := (y 0).isLt
  have h1 : (y 1).val < 128 := (y 1).isLt
  have e : (pairs arg4 harg4).view.read (Elt F) f (ix3 ⟨(y 0).val / 2, by omega⟩ ⟨(y 0).val % 2, by omega⟩ ⟨(y 1).val, h1⟩) = arg4.view.read (Elt F) f y := by
    refine congrArg (arg4.view.read (Elt F) f) (Shape.reshapeEquiv_eq_of_vals _ _ _ ((y 0).val * 128 + (y 1).val)
      ((y 0).val / 2 * 256 + (y 0).val % 2 * 128 + (y 1).val) ?_ ?_ (by omega))
    · exact rowMajor_val2 (d := ![8192, 128]) y 128 rfl
    · exact rowMajor_val3 (d := ![4096, 2, 128]) (ix3 ⟨(y 0).val / 2, by omega⟩ ⟨(y 0).val % 2, by omega⟩ ⟨(y 1).val, h1⟩) 256 128 rfl rfl
  have hn : k0_t3_loop.trips = 128 := by decide
  have k := h (ix3 ⟨(y 0).val / 2, by omega⟩ ⟨(y 0).val % 2, by omega⟩ ⟨(y 1).val, h1⟩) (by
    rw [hn]; show 4 * ((y 0).val / 2 / 128) + (y 0).val / 2 % 4 < 128; omega)
  rw [e] at k
  rw [k]
  unfold outBlk
  show outVal C S (idAt ids (s / 32) (s % 32 * 256 + (2 * (4 * ((y 0).val / 2 / 128) + (y 0).val / 2 % 4) + (y 0).val % 2))) ((y 0).val / 2 % 128 / 4) (y 1).val = _
  rw [show 2 * (4 * ((y 0).val / 2 / 128) + (y 0).val / 2 % 4) + (y 0).val % 2 = 8 * ((y 0).val / 256) + (y 0).val % 8 by omega,
    show (y 0).val / 2 % 128 / 4 = (y 0).val % 256 / 8 by omega]

end Cert.Proof.Value

end
-- ==== Proof.Value.Run.lean ====
/- The launch run: what the program's result array holds when it ends. -/
module

public import proofs.«01_k».proof.Proof.Value.Launch

@[expose] public section

set_option maxRecDepth 65536
set_option maxHeartbeats 400000

noncomputable section

namespace Cert.Proof.Value

open Cert.KernelIdeal Cert.KernelIdeal.Gen
open Cert.Proof.KernelIdeal (UU 𝒱₀ held InRange pairs held_pairs V0 V adm pcfg iblk ΦT_eq bodyAt defs₀_row)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UU nD τ) ℕ

variable (m : (ℓ : Loc nD τ sig) → Buf (Elt F) ℓ) (ρ : Dev nD → PrngReg)

theorem trips1 : k0_t1_loop.trips = 10 := by decide
theorem trips2 : k0_t2_loop.trips = 20 := by decide

/-- A filling point: the tables grow by the point's block, the output's buffer is left alone. -/
theorem sound_fill (c : Dev nD) (t : Fin (pcfg m).N) (ht : t.val < 50) :
    iprop(PhiS m c t.val ∗ (vdats m 0 c).owesAt () t.castSucc
      ∗ (∃ d, owns (c : Thread nD τ) (spec0_0.stage ((pcfg m).slots t 0)) fullShare ((vdats m 0 c).before (0 : Fin 3) t d))
      ∗ (∃ d, owns (c : Thread nD τ) (spec0_1.stage ((pcfg m).slots t 1)) fullShare ((vdats m 0 c).before (1 : Fin 3) t d))
      ∗ (∃ d, owns (c : Thread nD τ) (spec0_2.stage ((pcfg m).slots t 2)) fullShare ((vdats m 0 c).before (2 : Fin 3) t d)))
    ⊢ wp frame (wpE (defs₀ (F := F)) 𝒱₀ c none) Set.univ (bodyAt m t) (fun _ =>
      iprop(PhiS m c (t.val + 1) ∗ (vdats m 0 c).owesAt () t.castSucc
      ∗ owns (c : Thread nD τ) (spec0_0.stage ((pcfg m).slots t 0)) fullShare (iblk m c 0 t)
      ∗ owns (c : Thread nD τ) (spec0_1.stage ((pcfg m).slots t 1)) fullShare (iblk m c 1 t)
      ∗ (∃ d, owns (c : Thread nD τ) (spec0_2.stage ((pcfg m).slots t 2)) fullShare ((vdats m 0 c).before (2 : Fin 3) t d)))) := by
  simp only [vbefore_0, vbefore_1]
  have hc : (grid0.coords t 0).val = t.val := coords_val t
  have hm : min t.val 50 = t.val := by omega
  have hm' : min (t.val + 1) 50 = t.val + 1 := by omega
  unfold PhiS owns
  iintro ⟨⟨⟨%f5, H5, %h5⟩, ⟨%f6, H6, %h6⟩, Hp, H1⟩, Ho, ⟨%d0, %f2, %hf2, H2⟩, ⟨%d1, %f3, %hf3, H3⟩, H4⟩
  iapply (fill_run c (grid0.coords t) (Memref.whole main_arg0) (Memref.isWhole_whole _) _ _ _ _ _ _ (Memref.whole cc0_scratch0) (Memref.isWhole_whole _) (Memref.whole cc0_scratch1) (Memref.isWhole_whole _)
    (CC m c) (SS m c) f2 f3 f5 f6 (filling t ht).1 (filling t ht).2 (by rw [hf2]; exact codes_block m c t ht) (by rw [hf3]; exact scales_block m c t ht)
    (by intro y; rw [hc]; have := h5 y; rw [hm] at this; exact this) (by intro y; rw [hc]; have := h6 y; rw [hm] at this; exact this) _)
  simp only [held, Memref.view_whole, View.set_whole]
  isplitl [H2]; · iexact H2
  isplitl [H3]; · iexact H3
  isplitl [H5]; · iexact H5
  isplitl [H6]; · iexact H6
  iintro ⟨H2, H3, ⟨%g5, H5, %k5⟩, ⟨%g6, H6, %k6⟩⟩
  isplitl [H1 H5 H6 Hp]
  · isplitl [H5]
    · iexists g5
      isplitl [H5]; · iexact H5
      ipureintro
      intro y; have := k5 y; rw [hc, trips1, show 160 * t.val + 16 * 10 = 160 * min (t.val + 1) 50 by omega] at this; exact this
    isplitl [H6]
    · iexists g6
      isplitl [H6]; · iexact H6
      ipureintro
      intro y; have := k6 y; rw [hc, trips2, show 320 * t.val + 16 * 20 = 320 * min (t.val + 1) 50 by omega] at this; exact this
    isplitl [Hp]; · iexact Hp
    iexact H1
  isplitl [Ho]; · iexact Ho
  isplitl [H2]
  · iexists f2; isplitr; · ipureintro; exact hf2
    iexact H2
  isplitl [H3]
  · iexists f3; isplitr; · ipureintro; exact hf3
    iexact H3
  iexact H4

variable (hids : ∀ j, InRange (V m 0 main_arg0 j))
include hids

/-- A lookup point: the output's buffer takes the block's values. -/
theorem sound_look (c : Dev nD) (t : Fin (pcfg m).N) (ht : 50 ≤ t.val) :
    iprop(PhiS m c t.val ∗ (vdats m 0 c).owesAt () t.castSucc
      ∗ (∃ d, owns (c : Thread nD τ) (spec0_0.stage ((pcfg m).slots t 0)) fullShare ((vdats m 0 c).before (0 : Fin 3) t d))
      ∗ (∃ d, owns (c : Thread nD τ) (spec0_1.stage ((pcfg m).slots t 1)) fullShare ((vdats m 0 c).before (1 : Fin 3) t d))
      ∗ (∃ d, owns (c : Thread nD τ) (spec0_2.stage ((pcfg m).slots t 2)) fullShare ((vdats m 0 c).before (2 : Fin 3) t d)))
    ⊢ wp frame (wpE (defs₀ (F := F)) 𝒱₀ c none) Set.univ (bodyAt m t) (fun _ =>
      iprop(PhiS m c (t.val + 1) ∗ (vdats m 0 c).owesAt () t.castSucc
      ∗ owns (c : Thread nD τ) (spec0_0.stage ((pcfg m).slots t 0)) fullShare (iblk m c 0 t)
      ∗ owns (c : Thread nD τ) (spec0_1.stage ((pcfg m).slots t 1)) fullShare (iblk m c 1 t)
      ∗ owns (c : Thread nD τ) (spec0_2.stage ((pcfg m).slots t 2)) fullShare (outAft m c t.val))) := by
  simp only [vbefore_0, vbefore_1]
  have hc : (grid0.coords t 0).val = t.val := coords_val t
  have hm : min t.val 50 = 50 := by omega
  have hm' : min (t.val + 1) 50 = 50 := by omega
  unfold PhiS owns
  rw [hm, hm']
  iintro ⟨⟨⟨%f5, H5, %h5⟩, ⟨%f6, H6, %h6⟩, Hp, H1⟩, Ho, ⟨%d0, H2⟩, ⟨%d1, H3⟩, ⟨%X, %f4, -, H4⟩⟩
  iapply (lookup_run c (grid0.coords t) (Memref.whole main_arg0) (Memref.isWhole_whole _) _ (hstage0_0 (((pcfg m).slots t 0).cast nbuf0_0)) _ (hstage0_1 (((pcfg m).slots t 1).cast nbuf0_1)) _ (hstage0_2 (((pcfg m).slots t 2).cast nbuf0_2)) (Memref.whole cc0_scratch0) (Memref.isWhole_whole _) (Memref.whole cc0_scratch1) (Memref.isWhole_whole _)
    (CC m c) (SS m c) (V m 0 main_arg0) f4 f5 f6 (looking t ht).1 (looking t ht).2 (by intro j; exact hids j) (by intro y; exact h5 y) (by intro y; exact h6 y) _)
  simp only [held, Memref.view_whole, View.set_whole]
  isplitl [H1]; · iexact H1
  isplitl [H4]; · iexact H4
  isplitl [H5]; · iexact H5
  isplitl [H6]; · iexact H6
  iintro ⟨H1, ⟨%g4, H4, %k4⟩, H5, H6⟩
  isplitl [H1 H5 H6 Hp]
  · isplitl [H5]
    · iexists f5
      isplitl [H5]; · iexact H5
      ipureintro; exact h5
    isplitl [H6]
    · iexists f6
      isplitl [H6]; · iexact H6
      ipureintro; exact h6
    isplitl [Hp]; · iexact Hp
    iexact H1
  isplitl [Ho]; · iexact Ho
  isplitl [H2]; · iexact H2
  isplitl [H3]; · iexact H3
  iexists g4; isplitr
  · ipureintro
    funext y
    have := out_of_pairs (CC m c) (SS m c) (V m 0 main_arg0) ((grid0.coords t 0).val - 50) _ (hstage0_2 (((pcfg m).slots t 2).cast nbuf0_2)) g4 k4 y
    rw [hc] at this
    exact this
  iexact H4

/-- The body's obligation at every point. -/
theorem vobligation (c : Dev nD) : BodyObligationLoose (vdats (F := F) m 0 c) (defs₀ (F := F)) 𝒱₀ () Set.univ := fun t => by
  rw [show (Finset.univ : Finset (Fin (pcfg m).W)) = (Finset.univ : Finset (Fin 3)) from rfl, bigSep_W0, bigSep_W0, defs₀_row]
  by_cases ht : t.val < 50
  · have hi : idle0 2 (((pcfgs (F := F) 0).gridAt (adm m 0).1).coords t) = true := by
      show (!(k0_cond2 (grid0.coords t) == 1#1)) = true
      have := (filling t ht).2
      simp [this]
    have hf : ((pcfgs (F := F) 0).win (adm m 0) (2 : Fin 3)).flush t = false := no_flush t ht
    simp only [hi, hf, vΦ_eq, after_0, after_1]
    exact triple_restated (sound_fill m c t ht) rfl .rfl fun _ => .rfl
  · have hi : idle0 2 (((pcfgs (F := F) 0).gridAt (adm m 0).1).coords t) = false := by
      show (!(k0_cond2 (grid0.coords t) == 1#1)) = false
      have := (looking t (by omega)).2
      simp [this]
    simp only [hi, vΦ_eq, after_0, after_1, after_2]
    exact triple_restated (sound_look m hids c t (by omega)) rfl .rfl fun _ => .rfl

/-- The whole result before the host's layout: row `z 0` is row `z 0 % 8192` of block `z 0 / 8192`. -/
def outArr (c : Dev nD) (z : S1048576x128.Idx) : F .bf16 := outBlk (CC m c) (SS m c) (V m 0 main_arg0) ((z 0).val / 8192) ((z 0).val % 8192) (z 1).val

omit hids in
theorem flush_at : ∀ t : Fin grid0.N, Window.flushOf grid0 true cc0_transform_2 t = true → 50 ≤ t.val := by
  intro t h
  by_contra hlt
  rw [no_flush t (by omega)] at h
  exact absurd h (by decide)

omit hids in
theorem flushes : ∀ t : Fin grid0.N, 50 ≤ t.val → Window.flushOf grid0 true cc0_transform_2 t = true := by decide +kernel

omit hids in
/-- So the kernel's output array ends holding `outArr`. -/
theorem final_out (c : Dev nD) : (vdats m 0 c).arrAt (2 : Fin 3) (pcfg m).N = outArr m c := by
  refine (vdats m 0 c).arrAt_eq_of_covers (2 : Fin 3) (outArr m c) ?_ fun t hf y => ?_
  · refine ⟨fun a => ?_, fun β => ?_⟩
    · match a with
      | ⟨0, _⟩ => show 0 < 8192; decide
      | ⟨1, _⟩ => show 0 < 128; decide
    · have b0 : (β 0).val < 128  := lt_of_lt_of_eq (β 0).isLt (show (1048576 + 8192 - 1) / 8192 = 128 by omega)
      have b1 : (β 1).val < 1  := lt_of_lt_of_eq (β 1).isLt (show (128 + 128 - 1) / 128 = 1 by omega)
      obtain ⟨t, ht⟩ : ∃ t : Fin grid0.N, t.val = (β 0).val + 50 := ⟨⟨(β 0).val + 50, by rw [N_0]; omega⟩, rfl⟩
      have hi := index_out t
      refine ⟨t, flushes t (by omega), fun a => ⟨?_, Or.inl rfl⟩⟩
      match a with
      | ⟨0, _⟩ => show cc0_transform_2 (grid0.coords t) 0 = (β 0).val; rw [hi]; show t.val - 50 = _; omega
      | ⟨1, _⟩ => show cc0_transform_2 (grid0.coords t) 1 = (β 1).val; rw [hi]; show 0 = _; omega
  · have ht : 50 ≤ t.val := flush_at t hf
    have h0 : (y 0).val < 8192 := (y 0).isLt
    have hi := index_out t
    have e0 : ((((pcfg m).win (2 : Fin 3)).blk t).view.emb y 0).val = (t.val - 50) * 8192 + (y 0).val := by
      show cc0_transform_2 (grid0.coords t) 0 * 8192 + 1 * (y 0).val = _
      rw [hi]; show (t.val - 50) * 8192 + 1 * (y 0).val = _; omega
    have e1 : ((((pcfg m).win (2 : Fin 3)).blk t).view.emb y 1).val = (y 1).val := by
      show cc0_transform_2 (grid0.coords t) 1 * 128 + 1 * (y 1).val = _
      rw [hi]; show 0 * 128 + 1 * (y 1).val = _; omega
    show outBlk (CC m c) (SS m c) (V m 0 main_arg0) (t.val - 50) (y 0).val (y 1).val
      = outBlk (CC m c) (SS m c) (V m 0 main_arg0) (((((pcfg m).win (2 : Fin 3)).blk t).view.emb y 0).val / 8192) (((((pcfg m).win (2 : Fin 3)).blk t).view.emb y 0).val % 8192) ((((pcfg m).win (2 : Fin 3)).blk t).view.emb y 1).val
    rw [e0, e1, show ((t.val - 50) * 8192 + (y 0).val) / 8192 = t.val - 50 by omega, show ((t.val - 50) * 8192 + (y 0).val) % 8192 = (y 0).val by omega]

omit hids in
theorem hin (c : Dev nD) : iprop(Pipeline.ΦA spec0 c ∗ Pipeline.ΦT pre0 (adm m 0).1 c) ⊢ (vdats m 0 c).Φ 0 := by
  rw [vΦ_eq, ΦT_eq]
  unfold Pipeline.ΦA PhiS
  rw [scopedRest0_eq]
  iintro ⟨⟨⟨⟨%f5, H5⟩, ⟨%f6, H6⟩⟩, Hp⟩, H1⟩
  isplitl [H5]
  · iexists f5
    isplitl [H5]; · iexact H5
    ipureintro
    intro y s P h c e _ _ hP
    exact absurd hP (by simp)
  isplitl [H6]
  · iexists f6
    isplitl [H6]; · iexact H6
    ipureintro
    intro y hP
    exact absurd hP (by simp)
  isplitl [Hp]; · iexact Hp
  iexact H1

omit hids in
theorem hout (c : Dev nD) : (vdats m 0 c).Φ (Fin.last (pcfg m).N) ⊢ (Pipeline.ΦA spec0 c : sProp 𝕄) := by
  rw [vΦ_eq]
  unfold Pipeline.ΦA PhiS
  rw [scopedRest0_eq]
  iintro ⟨⟨%f5, H5, -⟩, ⟨%f6, H6, -⟩, Hp, -⟩
  isplitr [Hp]
  · isplitl [H5]
    · iexists f5; iexact H5
    · iexists f6; iexact H6
  iexact Hp

omit [FloatOps F] hids in
theorem v3_rest : main_v3 ∈ Pipeline.restRefs sig spec0 := by decide
omit [FloatOps F] hids in
theorem a0_rest : main_arg0 ∈ Pipeline.restRefs sig spec0 := by decide

set_option backward.isDefEq.respectTransparency.types false in
/-- The launch: the arguments as they were, the result at the host lines' values of `outArr`. -/
theorem value_run0 : θ_run defs (onTc (τ := τ) (main (F := F))) ⟨m, fun _ => 0, ρ⟩ (fun r =>
      Pipeline.FramePost (Pipeline.pin (pcfgs (F := F)) (adm m)) (vdats m) 0 (Pipeline.afterTail pcfgs (adm m) (vdats m) 0 (V0 m) [hostOps1]) r ∧ r.2.sem = fun _ => 0) :=
  Pipeline.θ_run_frameP_around_track pcfgs (adm m) (vdats m) (0 : Fin 1) launch0 defs₀ 𝒱₀ m ρ main
    (hbody := vobligation m hids) (hshare := fun c => (vdats m 0 c).share_full fun _ => rfl)
    (howed := fun _ _ => rfl) (V₀ := V0 m) (opss := [hostOps1]) (hsub := Cert.Proof.KernelIdeal.sfx_sub) (hfresh := Cert.Proof.KernelIdeal.sfx_fresh) (hkeep := Cert.Proof.KernelIdeal.sfx_keeps)
    (hmain := Cert.Proof.KernelIdeal.hmain m) (hA := vA_eq m) (hpf := fun c k => by rw [Subsingleton.elim c 0]; rfl) (hin := hin m) (hout := hout m)
    (Q' := _) (hQ' := fun r h => h)

end Cert.Proof.Value

end
-- ==== Proof.Value.Result.lean ====
/- The result the host lines leave: element `(b, k, j)` is the value of token `(b, k)` at column `j`. -/
module

public import proofs.«01_k».proof.Proof.Value.Run
public import Idealize.ShloMosaic.Lib.StableHlo.RunRead

@[expose] public section

set_option maxRecDepth 65536
set_option maxHeartbeats 400000

noncomputable section

namespace Cert.Proof.Value

open Cert.KernelIdeal Cert.KernelIdeal.Gen
open Cert.Proof.KernelIdeal (UU 𝒱₀ held InRange pairs held_pairs V0 V adm pcfg iblk)
open Idealize.ShloMosaic hiding ix1 ix2 ix3 ix4 eq_ix1 eq_ix2 eq_ix3
open Idealize.ShloMosaic.TcCoe Idealize.ShloMosaic.Tactic Idealize.ShloMosaic.ValueIdx
open Idealize.SL Idealize.SL.Sem

variable {F : FTy → Type} [FloatOps F]

variable (m : (ℓ : Loc nD τ sig) → Buf (Elt F) ℓ) (ρ : Dev nD → PrngReg)

/-- Element `(b, k, j)` of the result. -/
def resAt (c : Dev nD) (y : S4x8192x4096.Idx) : F .bf16 :=
  outVal (CC m c) (SS m c) (idAt (V m 0 main_arg0) (y 0).val (y 1).val) ((y 2).val / 128) ((y 2).val % 128)

/-- The three host lines over an array of blocks. -/
theorem layout_at (x : S1048576x128.Idx → F .bf16) (y : S4x8192x4096.Idx) (z : S1048576x128.Idx)
    (h0 : (z 0).val = ((y 0).val * 8192 + (y 1).val) / 8 * 256 + (y 2).val / 128 * 8 + (y 1).val % 8) (h1 : (z 1).val = (y 2).val % 128) :
    shapeCast S4x8192x4096 (transpose S4096x8x32x128 [0, 2, 1, 3] (shapeCast S4096x32x8x128 x shapeCasts_S1048576x128_S4096x32x8x128)
      transposes_S4096x32x8x128_S4096x8x32x128_0_2_1_3) shapeCasts_S4096x8x32x128_S4x8192x4096 y = x z := by
  have y0 : (y 0).val < 4 := (y 0).isLt
  have y1 : (y 1).val < 8192 := (y 1).isLt
  have y2 : (y 2).val < 4096 := (y 2).isLt
  let g : Fin 4096 := ⟨((y 0).val * 8192 + (y 1).val) / 8, by omega⟩
  let r : Fin 8 := ⟨(y 1).val % 8, by omega⟩
  let q : Fin 32 := ⟨(y 2).val / 128, by omega⟩
  let L : Fin 128 := ⟨(y 2).val % 128, by omega⟩
  have hg : g.val = ((y 0).val * 8192 + (y 1).val) / 8 := rfl
  have hr : r.val = (y 1).val % 8 := rfl
  have hq : q.val = (y 2).val / 128 := rfl
  have hL : L.val = (y 2).val % 128 := rfl
  refine (shapeCast_apply _ _ y (ix4 g r q L) ?_).trans ((transpose_apply _ _ _ _ (ix4 g q r L) ?_).trans (shapeCast_apply _ _ _ z ?_))
  · refine (rowMajor_val4 (d := ![4096, 8, 32, 128]) (ix4 g r q L) 32768 4096 128 rfl rfl rfl).trans
      (Eq.trans ?_ (rowMajor_val3 (d := ![4, 8192, 4096]) y 33554432 4096 (show 8192 * 4096 = 33554432 by omega) rfl).symm)
    show g.val * 32768 + r.val * 4096 + q.val * 128 + L.val = _
    omega
  · intro a; fin_cases a <;> rfl
  · refine (rowMajor_val2 (d := ![1048576, 128]) z 128 rfl).trans
      (Eq.trans ?_ (rowMajor_val4 (d := ![4096, 32, 8, 128]) (ix4 g q r L) 32768 1024 128 rfl rfl rfl).symm)
    show _ = g.val * 32768 + q.val * 1024 + r.val * 128 + L.val
    omega

/-- What the host lines leave in the result. -/
theorem tail_eq (c : Dev nD) : Pipeline.afterTail pcfgs (adm m) (vdats m) 0 (V0 m) [hostOps1] c main_v3 = resAt m c := by
  unfold Pipeline.afterTail
  simp only [List.flatten_cons, List.flatten_nil, List.append_nil]
  after_results_simp
  funext y
  have y0 : (y 0).val < 4 := (y 0).isLt
  have y1 : (y 1).val < 8192 := (y 1).isLt
  have y2 : (y 2).val < 4096 := (y 2).isLt
  have e := Pipeline.withArrays_arr spec0 (winFacts0.arr_inj) c (V0 m c) (fun w => (vdats m 0 c).arrAt w (pcfg m).N) (2 : Fin 3)
  rw [final_out] at e
  show shapeCast S4x8192x4096 (transpose S4096x8x32x128 [0, 2, 1, 3] (shapeCast S4096x32x8x128 (Pipeline.withArrays spec0 c (V0 m c) (fun w => (vdats m 0 c).arrAt w (pcfg m).N) (Proc.devRef .tc (Pipeline.arrRef spec0 2))) shapeCasts_S1048576x128_S4096x32x8x128)
      transposes_S4096x32x8x128_S4096x8x32x128_0_2_1_3) shapeCasts_S4096x8x32x128_S4x8192x4096 y = _
  rw [e, layout_at (outArr m c) y (ix2 ⟨((y 0).val * 8192 + (y 1).val) / 8 * 256 + (y 2).val / 128 * 8 + (y 1).val % 8, by omega⟩ ⟨(y 2).val % 128, by omega⟩) rfl rfl]
  unfold outArr outBlk resAt
  show outVal _ _ (idAt _ ((((y 0).val * 8192 + (y 1).val) / 8 * 256 + (y 2).val / 128 * 8 + (y 1).val % 8) / 8192 / 32)
    ((((y 0).val * 8192 + (y 1).val) / 8 * 256 + (y 2).val / 128 * 8 + (y 1).val % 8) / 8192 % 32 * 256
      + (8 * ((((y 0).val * 8192 + (y 1).val) / 8 * 256 + (y 2).val / 128 * 8 + (y 1).val % 8) % 8192 / 256) + (((y 0).val * 8192 + (y 1).val) / 8 * 256 + (y 2).val / 128 * 8 + (y 1).val % 8) % 8192 % 8)))
    ((((y 0).val * 8192 + (y 1).val) / 8 * 256 + (y 2).val / 128 * 8 + (y 1).val % 8) % 8192 % 256 / 8) ((y 2).val % 128) = _
  generalize (y 0).val = a, (y 1).val = b, (y 2).val = d at *
  congr 1
  · congr 1 <;> omega
  · omega

/-- The launch run: the result array, the arguments as they were. -/
theorem value_run (hids : ∀ j, InRange (V m 0 main_arg0 j)) : θ_run defs (onTc (τ := τ) (main (F := F))) ⟨m, fun _ => 0, ρ⟩ (fun r => ∀ c : Dev nD,
      r.2.mem ((c.tc : Thread nD τ).loc main_v3) = resAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v3 v3_rest).trans (tail_eq m c),
    ((h.1 c).2 main_arg0 a0_rest).trans (by
      unfold Pipeline.afterTail
      simp only [List.flatten_cons, List.flatten_nil, List.append_nil]
      after_results_simp
      exact Pipeline.withArrays_of_ne spec0 c (V0 m c) _ main_arg0 (by decide)),
    ((h.1 c).1 (0 : Fin 3)).trans ((vdats m 0 c).arrAt_in (0 : Fin 3) rfl _),
    ((h.1 c).1 (1 : Fin 3)).trans ((vdats m 0 c).arrAt_in (1 : Fin 3) rfl _)⟩) (value_run0 m ρ hids)

end Cert.Proof.Value

end
-- ==== Proof.Value.PartsCheck.lean ====
/- The check that the two parts of a half-precision scale add up to it, for blocks of magnitudes. -/
module

public import proofs.«01_k».proof.Proof.Value.Split

@[expose] public section

set_option maxRecDepth 65536
set_option maxHeartbeats 4000000

namespace Cert.Proof.Value

open Idealize.ShloMosaic

/-- A finite half-precision pattern's value as a whole number of `2 ^ -31`s. -/
def halfInt (w : BitVec 16) : Int :=
  let ex := (w.extractLsb' 10 5).toNat
  let fr := (w.extractLsb' 0 10).toNat
  (if w.extractLsb' 15 1 == 1#1 then -1 else 1) * ((if ex = 0 then fr * 2 ^ 7 else (2 ^ 10 + fr) * 2 ^ (ex + 6) : Nat) : Int)

/-- A bfloat16 pattern that is zero or a normal number of at least `2 ^ -24`. -/
def bfOk (w : BitVec 16) : Bool :=
  let ex := (w.extractLsb' 7 8).toNat
  let fr := (w.extractLsb' 0 7).toNat
  ex != 255 && (Nat.ble 103 ex || (ex == 0 && fr == 0))

/-- Such a pattern's value as a whole number of `2 ^ -31`s. -/
def bfInt (w : BitVec 16) : Int :=
  let ex := (w.extractLsb' 7 8).toNat
  let fr := (w.extractLsb' 0 7).toNat
  (if w.extractLsb' 15 1 == 1#1 then -1 else 1) * ((if ex = 0 then 0 else (2 ^ 7 + fr) * 2 ^ (ex - 103) : Nat) : Int)

/-- The parts in `s` are good and add up to the finite pattern `w`. -/
def partsOk (w : BitVec 16) (s : BitVec 32) : Bool :=
  (w.extractLsb' 10 5).toNat != 31 && bfOk (s.extractLsb' 0 16) && bfOk (s.extractLsb' 16 16)
    && (bfInt (s.extractLsb' 0 16) + bfInt (s.extractLsb' 16 16) == halfInt w)

/-- A pattern's magnitude, shifted to where a 32-bit float's stands. -/
def magWord (w : BitVec 16) : BitVec 32 := (w.setWidth 32 <<< 13) &&& 268427264#32
/-- A pattern's sign, shifted to where a 32-bit float's stands. -/
def signWord (w : BitVec 16) : BitVec 32 := (w.setWidth 32 <<< 16) &&& 2147483648#32

/-- The patterns `p`, without sign, and `q`, the same with the sign, have good parts, which come of the one rounded part `h` and the one rest `l`. -/
def pairOk (p q : BitVec 16) (h l : BitVec 32) : Bool :=
  signWord p == 0#32 && signWord q == 2147483648#32 && magWord q == magWord p
    && partsOk p (joinWord h l 0#32) && partsOk q (joinWord h l 2147483648#32)
@[inherit_doc pairOk]
def pairOf (b : BitVec 32) (p q : BitVec 16) : Bool := pairOk p q (roundWord b) (restWord b)

/-- The finite patterns of magnitude `n`, without and with the sign, have good parts. -/
def pairAt (n : Nat) : Bool :=
  Nat.ble 31744 n || pairOf (wideWord (magWord (BitVec.ofNat 16 n))) (BitVec.ofNat 16 n) (BitVec.ofNat 16 (n + 32768))

/-- The magnitudes whose high byte is `a + o`. -/
def pairsFrom (o : Nat) : Prop := ∀ a : Fin 32, ∀ b : Fin 256, pairAt (256 * (a.val + o) + b.val) = true

instance (o : Nat) : Decidable (pairsFrom o) := by unfold pairsFrom; infer_instance

end Cert.Proof.Value
-- ==== Proof.Value.PartsA.lean ====
/- The check of the parts, for the magnitudes from 0 to 8191; evaluated in a module of its own to keep memory small. -/
module

public import proofs.«01_k».proof.Proof.Value.PartsCheck

@[expose] public section

set_option maxRecDepth 65536

namespace Cert.Proof.Value

theorem pairs_0 : pairsFrom 0 := by decide +kernel

end Cert.Proof.Value
-- ==== Proof.Value.PartsB.lean ====
/- The check of the parts, for the magnitudes from 8192 to 16383; evaluated in a module of its own to keep memory small. -/
module

public import proofs.«01_k».proof.Proof.Value.PartsCheck

@[expose] public section

set_option maxRecDepth 65536

namespace Cert.Proof.Value

theorem pairs_32 : pairsFrom 32 := by decide +kernel

end Cert.Proof.Value
-- ==== Proof.Value.PartsC.lean ====
/- The check of the parts, for the magnitudes from 16384 to 24575; evaluated in a module of its own to keep memory small. -/
module

public import proofs.«01_k».proof.Proof.Value.PartsCheck

@[expose] public section

set_option maxRecDepth 65536

namespace Cert.Proof.Value

theorem pairs_64 : pairsFrom 64 := by decide +kernel

end Cert.Proof.Value
-- ==== Proof.Value.PartsD.lean ====
/- The check of the parts, for the magnitudes from 24576 to 32767; evaluated in a module of its own to keep memory small. -/
module

public import proofs.«01_k».proof.Proof.Value.PartsCheck

@[expose] public section

set_option maxRecDepth 65536

namespace Cert.Proof.Value

theorem pairs_96 : pairsFrom 96 := by decide +kernel

end Cert.Proof.Value
-- ==== Proof.Value.Parts.lean ====
/- The two parts of a half-precision scale add up to it. -/
module

public import proofs.«01_k».proof.Proof.Value.PartsA
public import proofs.«01_k».proof.Proof.Value.PartsB
public import proofs.«01_k».proof.Proof.Value.PartsC
public import proofs.«01_k».proof.Proof.Value.PartsD

@[expose] public section

set_option maxRecDepth 65536
set_option maxHeartbeats 4000000

namespace Cert.Proof.Value

open Idealize.ShloMosaic

/-- Every finite magnitude's two patterns have good parts. -/
theorem pairs_all (n : Nat) (h : n < 32768) : pairAt n = true := by
  have key : ∀ o, pairsFrom o → o ≤ n / 256 → n / 256 < o + 32 → pairAt n = true := by
    intro o ho h1 h2
    have := ho ⟨n / 256 - o, by omega⟩ ⟨n % 256, by omega⟩
    have e : 256 * (n / 256 - o + o) + n % 256 = n := by omega
    rwa [e] at this
  by_cases h1 : n / 256 < 32
  · exact key 0 pairs_0 (by omega) (by omega)
  by_cases h2 : n / 256 < 64
  · exact key 32 pairs_32 (by omega) (by omega)
  by_cases h3 : n / 256 < 96
  · exact key 64 pairs_64 (by omega) (by omega)
  · exact key 96 pairs_96 (by omega) (by omega)

/-- A pattern's exponent field is all ones from magnitude `31744` on. -/
theorem field_ones (w : BitVec 16) (h : 31744 ≤ w.toNat % 32768) : w.setWidth 32 &&& 31744#32 = 31744#32 := by
  have hw := w.isLt
  have e : (w.setWidth 32).toNat = w.toNat := by rw [BitVec.toNat_setWidth]; exact Nat.mod_eq_of_lt (by omega)
  apply BitVec.eq_of_toNat_eq
  rw [BitVec.toNat_and, e]
  show w.toNat &&& 31744 = 31744
  have hd : w.toNat = 1024 * (w.toNat / 1024) + w.toNat % 1024 := (Nat.div_add_mod _ _).symm
  have h31 : w.toNat / 1024 = 31 ∨ w.toNat / 1024 = 63 := by omega
  apply Nat.eq_of_testBit_eq
  intro i
  rw [Nat.testBit_and, show (31744 : Nat) = 2 ^ 10 * 31 by norm_num, Nat.testBit_two_pow_mul]
  by_cases hi : 10 ≤ i
  · have hq : w.toNat.testBit i = (w.toNat / 1024).testBit (i - 10) := by
      rw [show (1024 : Nat) = 2 ^ 10 by norm_num, Nat.testBit_div_two_pow, Nat.sub_add_cancel hi]
    rw [hq]
    rcases h31 with h' | h' <;> rw [h']
    · simp
    · rw [show (63 : Nat) = 2 ^ 6 - 1 by norm_num, show (31 : Nat) = 2 ^ 5 - 1 by norm_num, Nat.testBit_two_pow_sub_one, Nat.testBit_two_pow_sub_one]
      by_cases h5 : i - 10 < 5
      · simp [h5, show i - 10 < 6 by omega]
      · simp [h5]
  · simp [hi]

/-- The parts of a pattern whose exponent field is not all ones. -/
theorem parts_ok (w : BitVec 16) (h : w.setWidth 32 &&& 31744#32 ≠ 31744#32) : partsOk w (splitHalf w) = true := by
  have hw := w.isLt
  have hn : w.toNat % 32768 < 31744 := by
    by_contra hc
    exact h (field_ones w (by omega))
  have hp := pairs_all (w.toNat % 32768) (by omega)
  unfold pairAt pairOf pairOk at hp
  have hb : Nat.ble 31744 (w.toNat % 32768) = false := by
    rw [Bool.eq_false_iff, ne_eq, Nat.ble_eq]; omega
  rw [hb, Bool.false_or] at hp
  simp only [Bool.and_eq_true, beq_iff_eq] at hp
  obtain ⟨⟨⟨⟨hs0, hs1⟩, hm⟩, hk0⟩, hk1⟩ := hp
  have ew : BitVec.ofNat 16 w.toNat = w := by
    apply BitVec.eq_of_toNat_eq
    rw [BitVec.toNat_ofNat]; exact Nat.mod_eq_of_lt hw
  show partsOk w (joinWord (roundWord (wideWord (magWord w))) (restWord (wideWord (magWord w))) (signWord w)) = true
  by_cases hc : w.toNat < 32768
  · rw [Nat.mod_eq_of_lt hc, ew] at hs0 hk0
    rw [hs0]; exact hk0
  · have e : w.toNat % 32768 + 32768 = w.toNat := by omega
    rw [e, ew] at hs1 hm hk1
    rw [hs1, hm]; exact hk1

end Cert.Proof.Value
-- ==== Proof.Value.Codes.lean ====
/- What the codes and the scales denote over the extended reals. -/
module

public import proofs.«01_k».proof.Proof.Value.Lookup
public import Idealize.ShloMosaic.PureOps.Ideal
public import proofs.«01_k».proof.Proof.Value.Parts

@[expose] public section

set_option maxRecDepth 65536
set_option maxHeartbeats 400000

noncomputable section

namespace Cert.Proof.Value

open Idealize.ShloMosaic

/-- A finite half-precision pattern denotes its whole number of `2 ^ -31`s. -/
theorem half_value (w : BitVec 16) (h : (w.extractLsb' 10 5).toNat ≠ 31) :
    Ideal.ofBits .f16 w = (((halfInt w : ℝ) * (2 : ℝ) ^ (-31 : Int) : ℝ) : EReal) := by
  simp only [Ideal.ofBits]
  unfold Ideal.ieee halfInt
  dsimp only
  generalize (w.extractLsb' (5 + 10) 1 == 1#1) = neg
  generalize (w.extractLsb' 0 10).toNat = fr
  generalize (w.extractLsb' 10 5).toNat = ex at *
  rw [if_neg (by simpa using h)]
  by_cases he : ex = 0
  · rw [if_pos he, if_pos he]
    congr 1
    have e : (2 : ℝ) ^ (1 - (2 ^ (5 - 1) - 1 : Int) - ((10 : Nat) : Int) : Int) = 2 ^ 7 * (2 : ℝ) ^ (-31 : Int) := by norm_num
    rw [e]
    cases neg <;> push_cast <;> simp <;> ring
  · rw [if_neg he, if_neg he]
    congr 1
    have e : (2 : ℝ) ^ ((ex : Int) - (2 ^ (5 - 1) - 1 : Int) - ((10 : Nat) : Int) : Int) = 2 ^ (ex + 6) * (2 : ℝ) ^ (-31 : Int) := by
      rw [← zpow_natCast, ← zpow_add₀ (by norm_num)]
      congr 1
      push_cast
      omega
    rw [e]
    cases neg <;> push_cast <;> simp <;> ring

/-- A good bfloat16 pattern denotes its whole number of `2 ^ -31`s. -/
theorem bf_value (w : BitVec 16) (h : bfOk w = true) :
    Ideal.ofBits .bf16 w = (((bfInt w : ℝ) * (2 : ℝ) ^ (-31 : Int) : ℝ) : EReal) := by
  unfold bfOk at h
  simp only [Ideal.ofBits]
  unfold Ideal.ieee bfInt
  dsimp only at h ⊢
  generalize (w.extractLsb' (8 + 7) 1 == 1#1) = neg
  generalize (w.extractLsb' 0 7).toNat = fr at *
  generalize (w.extractLsb' 7 8).toNat = ex at *
  simp only [Bool.and_eq_true, Bool.or_eq_true, bne_iff_ne, beq_iff_eq, Nat.ble_eq] at h
  rw [if_neg (by simpa using h.1)]
  by_cases he : ex = 0
  · rw [if_pos he, if_pos he]
    have hf : fr = 0 := by omega
    subst hf
    simp
  · rw [if_neg he, if_neg he]
    congr 1
    have e : (2 : ℝ) ^ ((ex : Int) - (2 ^ (8 - 1) - 1 : Int) - ((7 : Nat) : Int) : Int) = 2 ^ (ex - 103) * (2 : ℝ) ^ (-31 : Int) := by
      rw [← zpow_natCast, ← zpow_add₀ (by norm_num)]
      congr 1
      push_cast
      omega
    rw [e]
    cases neg <;> push_cast <;> simp <;> ring

/-- The two good parts of a pattern, each times the same whole number, add up to the number times the pattern. -/
theorem parts_sum (w : BitVec 16) (s : BitVec 32) (h : partsOk w s = true) (n : Int) :
    ((n : ℝ) : EReal) * Ideal.ofBits .bf16 (s.extractLsb' 0 16) + ((n : ℝ) : EReal) * Ideal.ofBits .bf16 (s.extractLsb' 16 16)
      = ((n : ℝ) : EReal) * Ideal.ofBits .f16 w := by
  unfold partsOk at h
  simp only [Bool.and_eq_true, bne_iff_ne, beq_iff_eq] at h
  obtain ⟨⟨⟨h0, h1⟩, h2⟩, h3⟩ := h
  rw [half_value w h0, bf_value _ h1, bf_value _ h2, ← EReal.coe_mul, ← EReal.coe_mul, ← EReal.coe_mul, ← EReal.coe_add, ← h3]
  congr 1
  push_cast
  ring

/-- A byte's low code, and its high code, less the offset 8. -/
theorem low_code (b : BitVec 8) : (((snib b 0).signExtend 16).toInt : Int) = (b.setWidth 32 &&& 15#32).toInt - 8 := by
  have h : ∀ n : Fin 256, ((snib (BitVec.ofFin (w := 8) n) 0).signExtend 16).toInt = ((BitVec.ofFin (w := 8) n).setWidth 32 &&& 15#32).toInt - 8 := by decide +kernel
  exact h b.toFin
@[inherit_doc low_code]
theorem high_code (b : BitVec 8) : (((snib b 1).signExtend 16).toInt : Int) = (IntOp.shrsi .host (b.setWidth 32) 4#32).toInt - 8 := by
  have h : ∀ n : Fin 256, ((snib (BitVec.ofFin (w := 8) n) 1).signExtend 16).toInt = (IntOp.shrsi .host ((BitVec.ofFin (w := 8) n).setWidth 32) 4#32).toInt - 8 := by decide +kernel
  exact h b.toFin

theorem eight : Ideal.ofBits .f32 0x41000000#32 = ((8 : ℝ) : EReal) := by
  simp [Ideal.ofBits, Ideal.ieee, -EReal.coe_mul]; norm_num

/-- The lookup's value over the extended reals, where the scale's parts are good: the code times the scale. -/
theorem outVal_ideal (C : Nat → Nat → BitVec 8) (S : Nat → Nat → BitVec 16) (id c L : Nat)
    (h : partsOk (S id (4 * c + L / 32)) (splitHalf (S id (4 * c + L / 32))) = true) :
    outVal (F := Ideal) C S id c L
      = ((((snib (C id (64 * c + L / 2)) (L % 2)).signExtend 16).toInt : ℝ) : EReal) * Ideal.ofBits .f16 (S id (4 * c + L / 32)) :=
  parts_sum _ _ h _

end Cert.Proof.Value

end
-- ==== Proof.Ref.Lines.lean ====
/- The reference's host lines as one function: the table of values, and the rows taken from it. -/
module

public import proofs.«01_k».proof.Proof.Gen.ReferenceIdeal.Frame
public import Idealize.ShloMosaic.Lib.StableHlo.RunRead

@[expose] public section

set_option maxRecDepth 65536
set_option maxHeartbeats 400000

noncomputable section

namespace Cert.Proof.Ref

open Cert.ReferenceIdeal Cert.ReferenceIdeal.Gen
open Idealize.ShloMosaic Idealize.ShloMosaic.TcCoe Idealize.ShloMosaic.Tactic

variable {F : FTy → Type} [FloatOps F]

/-- The low halves of the bytes (`hi = false`) or the high halves, as signed values times their group's scale. -/
def halfVals (x : IVec S16000x2048 32) (z : FVec F S16000x128 .f32) : FVec F S16000x128x16 .f32 :=
  mulf (shapeCast S16000x128x16 (subf (sitofp .f32 x) (broadcastInDim S16000x2048 ![] bcast_S_S16000x2048 (constant S_ .f32 0x41000000#32)))
      shapeCasts_S16000x2048_S16000x128x16)
    (broadcastInDim S16000x128x16 ![0, 1, 2] bcast_S16000x128x1_S16000x128x16_0_1_2
      (broadcastInDim S16000x128x1 ![0, 1] bcast_S16000x128_S16000x128x1_0_1 z))

/-- The table: the low and the high halves interleaved. -/
def table (x : IVec S16000x2048 32) (z : FVec F S16000x128 .f32) : FVec F S16000x4096 .bf16 :=
  truncf .bf16 (shapeCast S16000x4096
    (concatenate S16000x128x16x2 3
      [⟨S16000x128x16x1, broadcastInDim S16000x128x16x1 ![0, 1, 2] bcast_S16000x128x16_S16000x128x16x1_0_1_2
          (halfVals (andi x (broadcastInDim S16000x2048 ![] bcast_S_S16000x2048 (constantI S_ 32 15#32))) z)⟩,
        ⟨S16000x128x16x1, broadcastInDim S16000x128x16x1 ![0, 1, 2] bcast_S16000x128x16_S16000x128x16x1_0_1_2
          (halfVals (Host.shrsi x (broadcastInDim S16000x2048 ![] bcast_S_S16000x2048 (constantI S_ 32 4#32))) z)⟩]
      concatenates_S16000x128x16x1_S16000x128x16x1_S16000x128x16x2_d3)
    shapeCasts_S16000x128x16x2_S16000x4096) bitsLt_bf16_f32

/-- The row numbers as the taking reads them: a negative one counted from the end. -/
def rowIds (ids : IVec S4x8192 32) : IVec S4x8192x1 32 :=
  broadcastInDim S4x8192x1 ![0, 1] bcast_S4x8192_S4x8192x1_0_1
    (select (cmpi CmpIPredicate.slt ids (broadcastInDim S4x8192 ![] bcast_S_S4x8192 (constantI S_ 32 0#32)))
      (addi ids (broadcastInDim S4x8192 ![] bcast_S_S4x8192 (constantI S_ 32 16000#32))) ids)

/-- Which row numbers name a row. -/
def rowOk (r : IVec S4x8192x1 32) : IVec S4x8192x1 1 :=
  andi (cmpi CmpIPredicate.sge r (broadcastInDim S4x8192x1 ![] bcast_S_S4x8192x1 (constantI S_ 32 0#32)))
    (cmpi CmpIPredicate.sle r (broadcastInDim S4x8192x1 ![0, 1, 2] bcast_S1x1x1_S4x8192x1_0_1_2
      (broadcastInDim S1x1x1 ![2] bcast_S1_S1x1x1_2 (constantI S1 32 15999#32))))

/-- The rows taken from a table. -/
def takeRows (x : FVec F S16000x4096 .bf16) (ids : IVec S4x8192 32) : FVec F S4x8192x4096 .bf16 :=
  select (broadcastInDim S4x8192x4096 ![0, 1] bcast_S4x8192_S4x8192x4096_0_1
      (Host.reduce IntOp.andi (rowOk (rowIds ids)) (constantI S_ 1 1#1) reducesTo_S4x8192x1_S4x8192_d2 h_S_))
    (Host.gather gather_S16000x4096_S4x8192x1_S4x8192x4096_2_0_n_n_0_2_14096 x (rowIds ids))
    (broadcastInDim S4x8192x4096 ![] bcast_S_S4x8192x4096 (constant S_ FTy.bf16 32704#16))

theorem first_lines (W : Valuation τ sig (Elt F)) :
    StableHlo.after hostOps1 W (Proc.devRef .tc main_v23)
      = table (W (Proc.devRef .tc main_v0)) (W (Proc.devRef .tc main_v1)) := by
  after_reads_simp
  rfl

theorem first_lines_ids (W : Valuation τ sig (Elt F)) :
    StableHlo.after hostOps1 W (Proc.devRef .tc main_arg0) = W (Proc.devRef .tc main_arg0) := by
  after_reads_simp

theorem take_lines (W : Valuation τ sig (Elt F)) :
    StableHlo.after hostOps1_1 W (Proc.devRef .tc main_v24)
      = takeRows (W (Proc.devRef .tc main_v23)) (W (Proc.devRef .tc main_arg0)) := by
  after_reads_simp
  simp only [StableHlo.TRef.toBuf, StableHlo.TRef.ofBuf, cast_cast, cast_eq]
  rfl

/-- The result of the lines after the region, from the buffers they read. -/
theorem lines_eq (W : Valuation τ sig (Elt F)) :
    StableHlo.after ([hostOps1, hostOps1_1].flatten) W (Proc.devRef .tc main_v24)
      = takeRows (table (W (Proc.devRef .tc main_v0)) (W (Proc.devRef .tc main_v1))) (W (Proc.devRef .tc main_arg0)) := by
  simp only [List.flatten_cons, List.flatten_nil, List.append_nil]
  rw [StableHlo.after_append, take_lines, first_lines, first_lines_ids]

end Cert.Proof.Ref

end
-- ==== Proof.Ref.Apply.lean ====
/- The reference's table and the rows taken from it, read at an index. -/
module

public import proofs.«01_k».proof.Proof.Ref.Lines
public import Idealize.ShloMosaic.Lib.Pipeline.Value
public import Idealize.ShloMosaic.Lib.StableHlo.Predicate
public import Idealize.ShloMosaic.Lib.ReduceAll
public import Idealize.ShloMosaic.Lib.ValueIdx
public import Idealize.ShloMosaic.Lib.Pointwise.Reshape

@[expose] public section

set_option maxRecDepth 65536
set_option maxHeartbeats 400000

noncomputable section

namespace Cert.Proof.Ref

open Cert.ReferenceIdeal Cert.ReferenceIdeal.Gen
open Idealize.ShloMosaic hiding ix1 ix2 ix3 ix4 eq_ix1 eq_ix2 eq_ix3
open Idealize.ShloMosaic.ValueIdx
open Idealize.ShloMosaic.Pipeline

variable {F : FTy → Type} [FloatOps F]

/-- A half value at group `g`, place `k`: the byte `16 g + k`, less 8, times the group's scale. -/
theorem halfVals_at (x : IVec S16000x2048 32) (z : FVec F S16000x128 .f32) (r g k : Nat) (hr : r < 16000) (hg : g < 128) (hk : k < 16) :
    halfVals x z (ix3 ⟨r, hr⟩ ⟨g, hg⟩ ⟨k, hk⟩ : S16000x128x16.Idx)
      = FloatOps.mulf (FloatOps.subf (FloatOps.sitofp .f32 (x (ix2 ⟨r, hr⟩ ⟨16 * g + k, by omega⟩))) (FloatOps.ofBits .f32 0x41000000#32))
        (z (ix2 ⟨r, hr⟩ ⟨g, hg⟩)) := by
  unfold halfVals
  show FloatOps.mulf (shapeCast S16000x128x16 _ _ _) (broadcastInDim S16000x128x16 _ _ _ _) = _
  rw [shapeCast_apply _ _ _ (ix2 ⟨r, hr⟩ ⟨16 * g + k, by omega⟩ : S16000x2048.Idx) (by
      refine (rowMajor_val2 (d := ![16000, 2048]) _ 2048 rfl).trans (Eq.trans ?_
        (rowMajor_val3 (d := ![16000, 128, 16]) (ix3 ⟨r, hr⟩ ⟨g, hg⟩ ⟨k, hk⟩) 2048 16 rfl rfl).symm)
      show r * 2048 + (16 * g + k) = r * 2048 + g * 16 + k
      omega),
    broadcastInDim_apply _ _ _ _ (ix3 ⟨r, hr⟩ ⟨g, hg⟩ ⟨0, by omega⟩ : S16000x128x1.Idx) (by intro a; fin_cases a <;> rfl),
    broadcastInDim_apply _ _ _ _ (ix2 ⟨r, hr⟩ ⟨g, hg⟩ : S16000x128.Idx) (by intro a; fin_cases a <;> rfl)]
  rfl

/-- The table at an even column is a low half, -/
theorem table_even (x : IVec S16000x2048 32) (z : FVec F S16000x128 .f32) (r g k : Nat) (hr : r < 16000) (hg : g < 128) (hk : k < 16)
    (d : Nat) (hd : d = 32 * g + 2 * k) :
    table x z (ix2 ⟨r, hr⟩ ⟨d, by omega⟩ : S16000x4096.Idx)
      = FloatOps.truncf .bf16 bitsLt_bf16_f32 (halfVals (andi x (broadcastInDim S16000x2048 ![] bcast_S_S16000x2048 (constantI S_ 32 15#32))) z
          (ix3 ⟨r, hr⟩ ⟨g, hg⟩ ⟨k, hk⟩ : S16000x128x16.Idx)) := by
  subst hd
  unfold table
  show FloatOps.truncf .bf16 _ (shapeCast S16000x4096 _ _ _) = _
  congr 1
  rw [shapeCast_apply _ _ _ (ix4 ⟨r, hr⟩ ⟨g, hg⟩ ⟨k, hk⟩ ⟨0, by omega⟩ : S16000x128x16x2.Idx) (by
      refine (rowMajor_val4 (d := ![16000, 128, 16, 2]) (ix4 ⟨r, hr⟩ ⟨g, hg⟩ ⟨k, hk⟩ ⟨0, by omega⟩) 4096 32 2 rfl rfl rfl).trans (Eq.trans ?_
        (rowMajor_val2 (d := ![16000, 4096]) _ 4096 rfl).symm)
      show r * 4096 + g * 32 + k * 2 + 0 = r * 4096 + (32 * g + 2 * k)
      omega),
    concatenate_pair_apply_left (t := S16000x128x16x2) (s₁ := S16000x128x16x1) (s₂ := S16000x128x16x1) _ _ _ _ _ rfl (ix4 ⟨r, hr⟩ ⟨g, hg⟩ ⟨k, hk⟩ ⟨0, by omega⟩ : S16000x128x16x1.Idx) (by intro a; fin_cases a <;> rfl),
    broadcastInDim_apply _ _ _ _ (ix3 ⟨r, hr⟩ ⟨g, hg⟩ ⟨k, hk⟩ : S16000x128x16.Idx) (by intro a; fin_cases a <;> rfl)]

/-- and at an odd one the high half beside it. -/
theorem table_odd (x : IVec S16000x2048 32) (z : FVec F S16000x128 .f32) (r g k : Nat) (hr : r < 16000) (hg : g < 128) (hk : k < 16)
    (d : Nat) (hd : d = 32 * g + 2 * k + 1) :
    table x z (ix2 ⟨r, hr⟩ ⟨d, by omega⟩ : S16000x4096.Idx)
      = FloatOps.truncf .bf16 bitsLt_bf16_f32 (halfVals (Host.shrsi x (broadcastInDim S16000x2048 ![] bcast_S_S16000x2048 (constantI S_ 32 4#32))) z
          (ix3 ⟨r, hr⟩ ⟨g, hg⟩ ⟨k, hk⟩ : S16000x128x16.Idx)) := by
  subst hd
  unfold table
  show FloatOps.truncf .bf16 _ (shapeCast S16000x4096 _ _ _) = _
  congr 1
  rw [shapeCast_apply _ _ _ (ix4 ⟨r, hr⟩ ⟨g, hg⟩ ⟨k, hk⟩ ⟨1, by omega⟩ : S16000x128x16x2.Idx) (by
      refine (rowMajor_val4 (d := ![16000, 128, 16, 2]) (ix4 ⟨r, hr⟩ ⟨g, hg⟩ ⟨k, hk⟩ ⟨1, by omega⟩) 4096 32 2 rfl rfl rfl).trans (Eq.trans ?_
        (rowMajor_val2 (d := ![16000, 4096]) _ 4096 rfl).symm)
      show r * 4096 + g * 32 + k * 2 + 1 = r * 4096 + (32 * g + 2 * k + 1)
      omega),
    concatenate_pair_apply_right (t := S16000x128x16x2) (s₁ := S16000x128x16x1) (s₂ := S16000x128x16x1) _ _ _ _ _ rfl rfl (ix4 ⟨r, hr⟩ ⟨g, hg⟩ ⟨k, hk⟩ ⟨0, by omega⟩ : S16000x128x16x1.Idx)
      (by intro a ha; fin_cases a <;> first | rfl | exact absurd rfl ha) rfl,
    broadcastInDim_apply _ _ _ _ (ix3 ⟨r, hr⟩ ⟨g, hg⟩ ⟨k, hk⟩ : S16000x128x16.Idx) (by intro a; fin_cases a <;> rfl)]

/-- The row number of a row in range is itself. -/
theorem rowIds_at (ids : IVec S4x8192 32) (a b : Nat) (ha : a < 4) (hb : b < 8192)
    (hlt : (ids (ix2 ⟨a, ha⟩ ⟨b, hb⟩)).toNat < 16000) :
    rowIds ids (ix3 ⟨a, ha⟩ ⟨b, hb⟩ ⟨0, by omega⟩ : S4x8192x1.Idx) = ids (ix2 ⟨a, ha⟩ ⟨b, hb⟩) := by
  unfold rowIds
  rw [broadcastInDim_apply _ _ _ _ (ix2 ⟨a, ha⟩ ⟨b, hb⟩ : S4x8192.Idx) (by intro a; fin_cases a <;> rfl)]
  show Scalar.select (IntOp.cmpi .slt (ids (ix2 ⟨a, ha⟩ ⟨b, hb⟩)) 0#32) _ _ = _
  generalize ids (ix2 ⟨a, ha⟩ ⟨b, hb⟩) = w at *
  have e : IntOp.cmpi .slt w 0#32 = 0#1 := by
    show BitVec.ofBool (w.slt 0#32) = 0#1
    have : w.slt 0#32 = false := by
      rw [BitVec.slt_eq_decide, StableHlo.Predicate.toInt_eq_toNat_of_lt (by omega)]
      simp
    rw [this]; rfl
  rw [e]
  rfl

theorem rowOk_at (r : IVec S4x8192x1 32) (y : S4x8192x1.Idx) (hlt : (r y).toNat < 16000) : rowOk r y = 1#1 := by
  unfold rowOk
  show (IntOp.cmpi .sge (r y) 0#32 &&& IntOp.cmpi .sle (r y) 15999#32) = 1#1
  generalize r y = w at *
  have e1 : IntOp.cmpi .sge w 0#32 = 1#1 := by
    show BitVec.ofBool ((0#32).sle w) = 1#1
    have : (0#32).sle w = true := by
      rw [BitVec.sle_eq_decide, StableHlo.Predicate.toInt_eq_toNat_of_lt (a := w) (by omega)]
      simp
    rw [this]; rfl
  have e2 : IntOp.cmpi .sle w 15999#32 = 1#1 := by
    show BitVec.ofBool (w.sle 15999#32) = 1#1
    have : w.sle 15999#32 = true := by
      rw [BitVec.sle_eq_decide, StableHlo.Predicate.toInt_eq_toNat_of_lt (a := w) (by omega)]
      simp
      omega
    rw [this]; rfl
  rw [e1, e2]
  rfl

/-- Every index of a `[4, 8192, 1]` array. -/
theorem idx_eq (y : S4x8192x1.Idx) : ∃ (a b : Nat) (ha : a < 4) (hb : b < 8192), y = (ix3 ⟨a, ha⟩ ⟨b, hb⟩ ⟨0, by omega⟩ : S4x8192x1.Idx) := by
  refine ⟨(y 0).val, (y 1).val, (y 0).isLt, (y 1).isLt, ?_⟩
  funext a
  refine Fin.ext ?_
  match a with
  | ⟨0, _⟩ => rfl
  | ⟨1, _⟩ => rfl
  | ⟨2, _⟩ =>
    have : (y 2).val < 1 := (y 2).isLt
    show (y 2).val = 0
    omega

/-- The dimension numbers of the taking. -/
abbrev GD : GatherDims S16000x4096 S4x8192x1 S4x8192x4096 := gather_S16000x4096_S4x8192x1_S4x8192x4096_2_0_n_n_0_2_14096

/-- The gather read at an index: the operand at the row number read there. -/
theorem gather_at (x : FVec F S16000x4096 .bf16) (r : IVec S4x8192x1 32) (a b d : Nat) (ha : a < 4) (hb : b < 8192) (hd : d < 4096)
    (hr : (r (ix3 ⟨a, ha⟩ ⟨b, hb⟩ ⟨0, by omega⟩)).toNat < 16000) :
    Host.gather GD x r (ix3 ⟨a, ha⟩ ⟨b, hb⟩ ⟨d, hd⟩ : S4x8192x4096.Idx) = x (ix2 ⟨(r (ix3 ⟨a, ha⟩ ⟨b, hb⟩ ⟨0, by omega⟩)).toNat, hr⟩ ⟨d, hd⟩) := by
  unfold Host.gather
  congr 1
  funext e
  refine Fin.ext ?_
  show GD.start (ix3 ⟨a, ha⟩ ⟨b, hb⟩ ⟨d, hd⟩) r e + GD.batchCoord (ix3 ⟨a, ha⟩ ⟨b, hb⟩ ⟨d, hd⟩) e + GD.offCoord (ix3 ⟨a, ha⟩ ⟨b, hb⟩ ⟨d, hd⟩) e = _
  rw [GatherDims.batchCoord_eq_zero _ _ _ List.not_mem_nil]
  have h01 : e = 0 ∨ e = 1 := by
    match e with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ GD.startIndexMap from List.mem_singleton.mpr rfl)]
    have hsi : GD.siIdx (ix3 ⟨a, ha⟩ ⟨b, hb⟩ ⟨d, hd⟩ : S4x8192x4096.Idx) ⟨List.idxOf (0 : Fin 2) GD.startIndexMap,
        List.idxOf_lt_length_iff.2 (List.mem_singleton.mpr rfl)⟩ = (ix3 ⟨a, ha⟩ ⟨b, hb⟩ ⟨0, by omega⟩ : S4x8192x1.Idx) := by
      funext b; refine Fin.ext ?_
      match b with
      | ⟨0, _⟩ => rfl
      | ⟨1, _⟩ => rfl
      | ⟨2, _⟩ => rfl
    rw [hsi]
    show min (r (ix3 ⟨a, ha⟩ ⟨b, hb⟩ ⟨0, by omega⟩)).toInt.toNat (16000 - 1) = (r (ix3 ⟨a, ha⟩ ⟨b, hb⟩ ⟨0, by omega⟩)).toNat
    rw [StableHlo.Predicate.toInt_eq_toNat_of_lt (by omega), Int.toNat_natCast]
    omega
  · have e0 : GD.start (ix3 ⟨a, ha⟩ ⟨b, hb⟩ ⟨d, hd⟩) r 1 = 0 := by
      unfold GatherDims.start
      rw [dif_neg (by decide)]
    rw [e0]
    simp only [Nat.zero_add, Nat.add_zero]
    unfold GatherDims.offCoord
    rw [dif_pos (by decide)]
    rfl

/-- The rows taken, read at an index. -/
theorem takeRows_at (x : FVec F S16000x4096 .bf16) (ids : IVec S4x8192 32) (hids : ∀ j, (ids j).toNat < 16000)
    (a b d : Nat) (ha : a < 4) (hb : b < 8192) (hd : d < 4096) :
    takeRows x ids (ix3 ⟨a, ha⟩ ⟨b, hb⟩ ⟨d, hd⟩ : S4x8192x4096.Idx) = x (ix2 ⟨(ids (ix2 ⟨a, ha⟩ ⟨b, hb⟩)).toNat, hids _⟩ ⟨d, hd⟩) := by
  unfold takeRows
  show Scalar.select (broadcastInDim S4x8192x4096 _ _ _ _) (Host.gather _ x (rowIds ids) _) _ = _
  rw [broadcastInDim_apply _ _ _ _ (ix2 ⟨a, ha⟩ ⟨b, hb⟩ : S4x8192.Idx) (by intro a; fin_cases a <;> rfl),
    Host.reduce_andi_one _ _ _ _ _ rfl (fun y => rowOk_at _ y (by
      obtain ⟨a, b, ha, hb, rfl⟩ := idx_eq y
      rw [rowIds_at _ _ _ _ _ (hids _)]; exact hids _))]
  show Host.gather _ x (rowIds ids) _ = _
  have e := rowIds_at ids a b ha hb (hids _)
  rw [gather_at x _ a b d ha hb hd (by rw [e]; exact hids _)]
  congr 2
  exact Fin.ext (congrArg BitVec.toNat e)

end Cert.Proof.Ref

end
-- ==== Proof.Ref.Run.lean ====
/- The reference's launch run: its result as the host lines' function of the three arguments. -/
module

public import proofs.«01_k».proof.Proof.Ref.Lines
public import Idealize.ShloMosaic.Lib.Pipeline.ValueKit

@[expose] public section

set_option maxRecDepth 65536
set_option maxHeartbeats 400000

noncomputable section

namespace Cert.Proof.Ref

open Cert.ReferenceIdeal Cert.ReferenceIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem off_zero : (![0, 0] : Fin 2 → Nat) = fun _ => 0 := funext fun a => by fin_cases a <;> rfl

/-- The one point's block of the scales is the whole array. -/
theorem scales_blk (c : Dev nD) (t : Fin cfg0.N) (y : S16000x128.Idx) : iblk m c 0 t y = V m c main_arg2 y := by
  show V m c main_arg2 (((cfg0.win 0).blk t).view.emb y) = _
  congr 1
  funext a
  refine Fin.ext ?_
  exact Pipeline.Window.rect_emb_val_of_index_zero win0_0 t a rfl y

/-- The decoded scales, as the region leaves them. -/
theorem scales_arr (c : Dev nD) : (dats m 0 c).arrAt 1 cfg0.N = k0_pay1 (m ((c : Thread nD τ).loc main_arg2)) := by
  refine Dat.arrAt_eq_of_after_last (dats m 0 c) 1 ⟨0, by decide⟩ (by decide +kernel) _ (fun j => ?_)
  rw [after0_1]
  unfold out0_1
  rw [View.canon_unit_zero off_zero, View.ld_unit_zero off_zero]
  have e : iblk m c 0 ⟨0, by decide⟩ = V m c main_arg2 := funext (scales_blk m c _)
  rw [e, V_main_arg2]
  rfl

/-- The lines after the region, on what the region leaves. -/
theorem tail_eq (c : Dev nD) :
    Pipeline.afterTail₀ cfgs (dats m) 0 (V0 m) [hostOps1, hostOps1_1] c main_v24
      = takeRows (table (extui 32 (m ((c : Thread nD τ).loc main_arg1)) (by decide)) (k0_pay1 (m ((c : Thread nD τ).loc main_arg2))))
        (m ((c : Thread nD τ).loc main_arg0)) := by
  unfold Pipeline.afterTail₀
  rw [lines_eq]
  have e1 := Pipeline.withArrays_arr spec0 (launch0.win.arr_inj) c (V0 m c) (fun w => (dats m 0 c).arrAt w cfg0.N) (1 : Fin 2)
  rw [scales_arr] at e1
  have e0 := Pipeline.withArrays_of_ne spec0 c (V0 m c) (fun w => (dats m 0 c).arrAt w cfg0.N) main_v0 (by decide)
  have ea := Pipeline.withArrays_of_ne spec0 c (V0 m c) (fun w => (dats m 0 c).arrAt w cfg0.N) main_arg0 (by decide)
  have e0' : V0 m c (Proc.devRef .tc main_v0) = (extui 32 (m ((c : Thread nD τ).loc main_arg1)) (by decide) : IVec S16000x2048 32) := by
    show StableHlo.after (List.flatten [hostOps0]) _ _ = _
    simp only [List.flatten_cons, List.flatten_nil, List.append_nil]
    after_reads_simp
  have h1 : Pipeline.withArrays (cfgs 0).spec c (V0 m c) (fun w => (dats m 0 c).arrAt w (cfgs 0).N) (Proc.devRef .tc main_v1)
      = k0_pay1 (m ((c : Thread nD τ).loc main_arg2)) := e1
  have h0 : Pipeline.withArrays (cfgs 0).spec c (V0 m c) (fun w => (dats m 0 c).arrAt w (cfgs 0).N) (Proc.devRef .tc main_v0)
      = (extui 32 (m ((c : Thread nD τ).loc main_arg1)) (by decide) : IVec S16000x2048 32) := e0.trans e0'
  have ha : Pipeline.withArrays (cfgs 0).spec c (V0 m c) (fun w => (dats m 0 c).arrAt w (cfgs 0).N) (Proc.devRef .tc main_arg0)
      = m ((c : Thread nD τ).loc main_arg0) := ea.trans (V_main_arg0 m c)
  rw [h1, h0, ha]

/-- The reference's run: the result array, the arguments as they were. -/
theorem ref_run : θ_run defs (onTc (τ := τ) (main (F := F))) ⟨m, fun _ => 0, ρ⟩ (fun r => ∀ c : Dev nD,
      r.2.mem ((c.tc : Thread nD τ).loc main_v24)
        = takeRows (table (extui 32 (m ((c : Thread nD τ).loc main_arg1)) (by decide)) (k0_pay1 (m ((c : Thread nD τ).loc main_arg2))))
          (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v24 (Pipeline.mem_restRefs_of main_v24 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c)))⟩) (run_main m ρ)

end Cert.Proof.Ref

end
-- ==== Proof.Value.Equal.lean ====
/- Lookup and reference agree: element by element over the extended reals, at ids in range and finite scales. -/
module

public import proofs.«01_k».proof.Proof.Value.Result
public import proofs.«01_k».proof.Proof.Value.Codes
public import proofs.«01_k».proof.Proof.Ref.Apply
public import proofs.«01_k».proof.Proof.Ref.Run

@[expose] public section

set_option maxRecDepth 65536
set_option maxHeartbeats 400000

noncomputable section

namespace Cert.Proof.Value

open Cert.Proof.KernelIdeal (InRange)
open Idealize.ShloMosaic hiding ix1 ix2 ix3 ix4 eq_ix1 eq_ix2 eq_ix3
open Idealize.ShloMosaic.ValueIdx
open Cert.KernelIdeal (S4x8192 S16000x2048 S16000x128 S4x8192x4096)

/-- A half-precision pattern whose exponent field is not all ones. -/
def Finite (w : BitVec 16) : Prop := w.setWidth 32 &&& 31744#32 ≠ 31744#32

/-- The reference's table of the codes and the scales. -/
abbrev refTable (codes : IVec S16000x2048 8) (scales : IVec S16000x128 16) : FVec Ideal Cert.ReferenceIdeal.S16000x4096 .bf16 :=
  Ref.table (F := Ideal) (extui 32 codes (by decide)) (Cert.ReferenceIdeal.Gen.k0_pay1 (F := Ideal) scales)

/-- The table at row `r`, column `d`: the code times the scale. -/
theorem refTable_at (codes : IVec S16000x2048 8) (scales : IVec S16000x128 16) (r d : Nat) (hr : r < 16000) (hd : d < 4096) :
    refTable codes scales (ix2 ⟨r, hr⟩ ⟨d, hd⟩)
      = ((((snib (codes (ix2 ⟨r, hr⟩ ⟨d / 2, by omega⟩)) (d % 2)).signExtend 16).toInt : ℝ) : EReal)
        * Ideal.ofBits .f16 (scales (ix2 ⟨r, hr⟩ ⟨d / 32, by omega⟩)) := by
  have hc : 16 * (d / 32) + d % 32 / 2 = d / 2 := by omega
  obtain hp | hp := Nat.mod_two_eq_zero_or_one d
  · refine (Ref.table_even (F := Ideal) _ _ r (d / 32) (d % 32 / 2) hr (by omega) (by omega) d (by omega)).trans ?_
    show Ref.halfVals (F := Ideal) _ _ _ = _
    rw [Ref.halfVals_at]
    simp only [hc, hp]
    rw [low_code]
    show (((((codes (ix2 ⟨r, hr⟩ ⟨d / 2, by omega⟩)).setWidth 32 &&& 15#32).toInt : ℝ) : EReal) - Ideal.ofBits .f32 0x41000000#32) * Ideal.ofBits .f16 _ = _
    rw [eight, ← EReal.coe_sub]
    push_cast
    rfl
  · refine (Ref.table_odd (F := Ideal) _ _ r (d / 32) (d % 32 / 2) hr (by omega) (by omega) d (by omega)).trans ?_
    show Ref.halfVals (F := Ideal) _ _ _ = _
    rw [Ref.halfVals_at]
    simp only [hc, hp]
    rw [high_code]
    show ((((IntOp.shrsi .host ((codes (ix2 ⟨r, hr⟩ ⟨d / 2, by omega⟩)).setWidth 32) 4#32).toInt : ℝ) : EReal) - Ideal.ofBits .f32 0x41000000#32) * Ideal.ofBits .f16 _ = _
    rw [eight, ← EReal.coe_sub]
    push_cast
    rfl

/-- The two results are the same. -/
theorem equal (codes : IVec S16000x2048 8) (scales : IVec S16000x128 16) (ids : IVec S4x8192 32)
    (hids : ∀ j, InRange (ids j)) (hfin : ∀ j, Finite (scales j)) (y : S4x8192x4096.Idx) :
    outVal (F := Ideal) (codesOf codes) (scalesOf scales) (idAt ids (y 0).val (y 1).val) ((y 2).val / 128) ((y 2).val % 128)
      = Ref.takeRows (F := Ideal) (refTable codes scales) ids y := by
  have hr : ∀ j, (ids j).toNat < 16000 := fun j => inRange_toNat (hids j)
  obtain ⟨a, b, d, rfl⟩ : ∃ (a : Fin 4) (b : Fin 8192) (d : Fin 4096), y = ix3 a b d := ⟨_, _, _, eq_ix3 y⟩
  show outVal (F := Ideal) (codesOf codes) (scalesOf scales) (idAt ids a.val b.val) (d.val / 128) (d.val % 128) = _
  have hd : d.val < 4096 := d.isLt
  have hi : idAt ids a.val b.val = (ids (ix2 a b)).toNat := dif_pos ⟨a.isLt, b.isLt⟩
  have hlt := hr (ix2 a b)
  have hS : scalesOf scales (idAt ids a.val b.val) (4 * (d.val / 128) + d.val % 128 / 32) = scales (ix2 ⟨(ids (ix2 a b)).toNat, hlt⟩ ⟨d.val / 32, by omega⟩) := by
    rw [hi, show 4 * (d.val / 128) + d.val % 128 / 32 = d.val / 32 by omega]
    exact dif_pos ⟨hlt, by omega⟩
  have hC : codesOf codes (idAt ids a.val b.val) (64 * (d.val / 128) + d.val % 128 / 2) = codes (ix2 ⟨(ids (ix2 a b)).toNat, hlt⟩ ⟨d.val / 2, by omega⟩) := by
    rw [hi, show 64 * (d.val / 128) + d.val % 128 / 2 = d.val / 2 by omega]
    exact dif_pos ⟨hlt, by omega⟩
  rw [outVal_ideal _ _ _ _ _ (by rw [hS]; exact parts_ok _ (hfin _)), hC, hS, show d.val % 128 % 2 = d.val % 2 by omega]
  refine Eq.symm ((Ref.takeRows_at (F := Ideal) _ ids hr a.val b.val d.val a.isLt b.isLt d.isLt).trans ?_)
  exact refTable_at codes scales _ d.val hlt d.isLt

end Cert.Proof.Value

end
-- ==== Proof.Value.Claim.lean ====
/- The claims under the second precondition: ids in range and scales finite. -/
module

public import proofs.«01_k».proof.Proof.Value.Equal
public import proofs.«01_k».proof.Proof.KernelIdeal.Claim
public import proofs.«01_k».proof.Proof.Gen.Pre_ids_in_range_scales_finite
public import proofs.«01_k».proof.Defs

@[expose] public section

noncomputable section

namespace Cert.Proof.Value

open Cert.Proof.KernelIdeal (InRange)
open Idealize.ShloMosaic Idealize.ShloMosaic.TcCoe Idealize.SL.Sem

/-- What the printed predicate says: every id names a row, and every scale is finite. -/
theorem of_pre {F : FTy → Type} [FloatOps F] (ids : IVec Cert.Pre_ids_in_range_scales_finite.S4x8192 32) (a1 : IVec Cert.Pre_ids_in_range_scales_finite.S16000x2048 8)
    (scales : IVec Cert.Pre_ids_in_range_scales_finite.S16000x128 16)
    (h : Cert.Pre_ids_in_range_scales_finite.fn (F := F) ids a1 scales = fun _ => 1#1) :
    (∀ j, InRange (ids j)) ∧ ∀ j, Finite (scales j) := by
  have e := congrFun h (fun a => a.elim0)
  obtain ⟨e1, e2⟩ := IntOp.andi_eq_one.1 e
  haveI : Subsingleton Cert.Pre_ids_in_range_scales_finite.S_.Idx := ⟨fun x y => funext fun a => a.elim0⟩
  refine ⟨fun j => ?_, fun j hj => ?_⟩
  · obtain ⟨h1, h2⟩ := IntOp.andi_eq_one.1 (Host.reduce_andi_all _ _ _ _ _ e1 j)
    exact ⟨IntOp.cmpi_sge.mp h1, IntOp.cmpi_slt.mp h2⟩
  · have h1 := Host.reduce_andi_all _ _ _ _ _ e2 j
    have h2 : IntOp.cmpi .ne ((scales j).setWidth 32 &&& 31744#32) 31744#32 = 1#1 := h1
    rw [hj] at h2
    exact absurd h2 (by decide)

/-- The kernel's frame under this precondition. -/
theorem frame_finite : Cert.quiescent_KernelIdeal_pre_ids_in_range_scales_finite := fun m ρ hpre =>
  KernelIdeal.frame_run m ρ (of_pre _ _ _ (hpre 0)).1

/-- Kernel and reference compute the same function over the extended reals. -/
theorem algebraic : Cert.algebraic_KernelIdeal_ReferenceIdeal_pre_ids_in_range_scales_finite := by
  intro m ρ m' ρ' hpre hargs
  refine ⟨fun c => resAt m c, value_run m ρ (of_pre _ _ _ (hpre 0)).1, ?_⟩
  refine (θ_run Cert.ReferenceIdeal.defs _ _).mono (fun r h c => ⟨(h c).1.trans ?_, (h c).2⟩) (Ref.ref_run (F := Ideal) m' ρ')
  obtain ⟨hi, hf⟩ := of_pre _ _ _ (hpre c)
  obtain ⟨h0, h1, h2⟩ := hargs c
  obtain rfl : c = 0 := Subsingleton.elim _ _
  refine Eq.symm (funext fun y => ?_)
  refine (equal _ _ _ hi hf y).trans ?_
  rw [h0, h1, h2]

end Cert.Proof.Value

end
-- ==== Proof.lean ====
/- The claims, assembled. -/
module

public import proofs.«01_k».proof.Defs
public import proofs.«01_k».proof.Proof.Kernel.Claim
public import proofs.«01_k».proof.Proof.KernelIdeal.Claim
public import proofs.«01_k».proof.Proof.Value.Claim
public import proofs.«01_k».proof.Proof.Gen.ReferenceIdeal.Frame
public import Idealize.ShloMosaic.Lib.Bf16Pair

@[expose] public section

namespace Cert.Proof

theorem claim : Cert.Claim :=
  ⟨Cert.Kernel.Gen.facts, Cert.KernelIdeal.Gen.facts, Cert.ReferenceIdeal.Gen.facts, Cert.Pre_ids_in_range.Gen.facts, Cert.Pre_ids_in_range_scales_finite.Gen.facts,
    Kernel.frame_Kernel, KernelIdeal.frame_KernelIdeal, Value.frame_finite,
    fun m ρ _ => Cert.ReferenceIdeal.Gen.frame m ρ, fun m ρ _ => Cert.ReferenceIdeal.Gen.frame m ρ,
    ⟨Idealize.ShloMosaic.IdealRules.bf16_pair.statement _ _, Idealize.ShloMosaic.IdealRules.bf16_pair.statement _ _⟩,
    Value.algebraic⟩

end Cert.Proof
